-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_counts_and_weights [hPre_counts_and_weights : Cert.Pre_counts_and_weights.Facts] (m : (ℓ : Loc Cert.KernelIdeal.nD Cert.KernelIdeal.τ Cert.KernelIdeal.sig) → Buf (Elt Ideal) ℓ) : Prop :=
  ∀ c : Dev Cert.KernelIdeal.nD,
    (Cert.Pre_counts_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_counts_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_and_weights [hPre_counts_and_weights : Cert.Pre_counts_and_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_counts_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_counts_and_weights [hKernelIdeal : Cert.KernelIdeal.Facts] [hPre_counts_and_weights : Cert.Pre_counts_and_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counts_and_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_counts_and_weights [hReferenceIdeal : Cert.ReferenceIdeal.Facts] [hPre_counts_and_weights : Cert.Pre_counts_and_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_and_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "half_log2_e" .f32 0x3F38AA3B#32 (((2 * (Real.log 2))⁻¹ : ℝ) : EReal)

def algebraic_KernelIdeal_ReferenceIdeal_pre_counts_and_weights [hKernelIdeal : Cert.KernelIdeal.Facts] [hReferenceIdeal : Cert.ReferenceIdeal.Facts] [hPre_counts_and_weights : Cert.Pre_counts_and_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_counts_and_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_counts_and_weights : Cert.Pre_counts_and_weights.Facts),
    quiescent_Kernel (hKernel := hKernel)
    ∧ quiescent_KernelIdeal (hKernelIdeal := hKernelIdeal)
    ∧ quiescent_KernelIdeal_pre_counts_and_weights (hKernelIdeal := hKernelIdeal) (hPre_counts_and_weights := hPre_counts_and_weights)
    ∧ quiescent_ReferenceIdeal (hReferenceIdeal := hReferenceIdeal)
    ∧ quiescent_ReferenceIdeal_pre_counts_and_weights (hReferenceIdeal := hReferenceIdeal) (hPre_counts_and_weights := hPre_counts_and_weights)
    ∧ preserves_Kernel_KernelIdeal
    ∧ algebraic_KernelIdeal_ReferenceIdeal_pre_counts_and_weights (hKernelIdeal := hKernelIdeal) (hReferenceIdeal := hReferenceIdeal) (hPre_counts_and_weights := hPre_counts_and_weights)
-- ==== Pre_counts_and_weights.lean ====
abbrev S320000x128 : Shape := ⟨2, ![320000, 128]⟩
abbrev S10000 : Shape := ⟨1, ![10000]⟩
abbrev S128x128 : Shape := ⟨2, ![128, 128]⟩
abbrev S128 : Shape := ⟨1, ![128]⟩
abbrev S1x128 : Shape := ⟨2, ![1, 128]⟩
abbrev S_ : Shape := ⟨0, ![]⟩

class Facts : Prop where
  bcast_S_S10000 : S_.BroadcastsInDim S10000 (![] : Fin 0 → Fin S10000.rank)
  bcast_S_S1x128 : S_.BroadcastsInDim S1x128 (![] : Fin 0 → Fin S1x128.rank)

variable [Facts]

def fn {F : FTy → Type} [FloatOps F] (main_arg0 : FVec F S320000x128 .f32) (main_arg1 : FVec F S320000x128 .f32) (main_arg2 : IVec S10000 32) (main_arg3 : FVec F S128x128 .f32) (main_arg4 : FVec F S128 .f32) (main_arg5 : FVec F S128x128 .f32) (main_arg6 : FVec F S1x128 .f32) (main_arg7 : FVec F S128x128 .f32) : IVec S10000 1 × IVec S1x128 1 :=
  let main_c : IVec S_ 32 := constantI S_ 32 32#32
  let main_v0 : IVec S10000 32 := broadcastInDim S10000 ![] bcast_S_S10000 main_c
  let main_v1 : IVec S10000 1 := cmpi .eq main_arg2 main_v0
  let main_v2 : FVec F S1x128 .f32 := Host.absf main_arg6
  let main_cst : FVec F S_ .f32 := constant S_ .f32 0x7F800000#32
  let main_v3 : FVec F S1x128 .f32 := broadcastInDim S1x128 ![] bcast_S_S1x128 main_cst
  let main_v4 : IVec S1x128 1 := cmpf .olt main_v2 main_v3
  (main_v1, main_v4)
-- ==== Kernel.lean ====
abbrev S320000x128 : Shape := ⟨2, ![320000, 128]⟩
abbrev S10000 : Shape := ⟨1, ![10000]⟩
abbrev S128x128 : Shape := ⟨2, ![128, 128]⟩
abbrev S128 : Shape := ⟨1, ![128]⟩
abbrev S1x128 : Shape := ⟨2, ![1, 128]⟩
abbrev S256x128 : Shape := ⟨2, ![256, 128]⟩
abbrev S_ : Shape := ⟨0, ![]⟩
abbrev S128x1 : Shape := ⟨2, ![128, 1]⟩
abbrev S10000x128 : Shape := ⟨2, ![10000, 128]⟩
abbrev S12800x128 : Shape := ⟨2, ![12800, 128]⟩
abbrev S400x128 : Shape := ⟨2, ![400, 128]⟩
abbrev S12800x256 : Shape := ⟨2, ![12800, 256]⟩
abbrev S400x32x128 : Shape := ⟨3, ![400, 32, 128]⟩

abbrev nBuf : Space → Nat
  | .hbm => 22
  | .vmem => 10
  | .smem => 0
  | _ => 0

abbrev bufTy : (tb : Table) → Fin (tcTables nBuf tb) → BufTy
  | .hbm, ⟨0, _⟩ => ⟨S320000x128, .f32⟩
  | .hbm, ⟨1, _⟩ => ⟨S320000x128, .f32⟩
  | .hbm, ⟨2, _⟩ => ⟨S10000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S1x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S256x128, .f32⟩
  | .hbm, ⟨11, _⟩ => ⟨S_, .f32⟩
  | .hbm, ⟨12, _⟩ => ⟨S256x128, .f32⟩
  | .hbm, ⟨13, _⟩ => ⟨S256x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S128x1, .f32⟩
  | .hbm, ⟨19, _⟩ => ⟨S128x128, .f32⟩
  | .hbm, ⟨20, _⟩ => ⟨S128x128, .f32⟩
  | .hbm, ⟨21, _⟩ => ⟨S10000x128, .f32⟩
  | .local _ .vmem, ⟨0, _⟩ => ⟨S12800x128, .f32⟩
  | .local _ .vmem, ⟨1, _⟩ => ⟨S12800x128, .f32⟩
  | .local _ .vmem, ⟨2, _⟩ => ⟨S12800x128, .f32⟩
  | .local _ .vmem, ⟨3, _⟩ => ⟨S12800x128, .f32⟩
  | .local _ .vmem, ⟨4, _⟩ => ⟨S256x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S400x128, .f32⟩
  | .local _ .vmem, ⟨9, _⟩ => ⟨S400x128, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_cst_0 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "half_log2_e" => some (((2 * (Real.log 2))⁻¹ : ℝ) : EReal)
  | _ => none
-- ==== ReferenceIdeal.lean ====
abbrev S320000x128 : Shape := ⟨2, ![320000, 128]⟩
abbrev S10000 : Shape := ⟨1, ![10000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S9999 : Shape := ⟨1, ![9999]⟩
abbrev S_ : Shape := ⟨0, ![]⟩
abbrev S320000 : Shape := ⟨1, ![320000]⟩
abbrev S10000x1 : Shape := ⟨2, ![10000, 1]⟩
abbrev S320000x1 : Shape := ⟨2, ![320000, 1]⟩
abbrev S1x1 : Shape := ⟨2, ![1, 1]⟩
abbrev S128x1 : Shape := ⟨2, ![128, 1]⟩
abbrev S1x320000 : Shape := ⟨2, ![1, 320000]⟩
abbrev S10000x320000 : Shape := ⟨2, ![10000, 320000]⟩
abbrev S10000x128 : Shape := ⟨2, ![10000, 128]⟩

abbrev nBuf : Space → Nat
  | .hbm => 126
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000x128, .f32⟩
  | .hbm, ⟨2, _⟩ => ⟨S10000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S1x128, .f32⟩
  | .hbm, ⟨7, _⟩ => ⟨S128x128, .f32⟩
  | .hbm, ⟨8, _⟩ => ⟨S10000, .i32⟩
  | .hbm, ⟨9, _⟩ => ⟨S1, .i32⟩
  | .hbm, ⟨10, _⟩ => ⟨S9999, .i32⟩
  | .hbm, ⟨11, _⟩ => ⟨S10000, .i32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S10000, .i32⟩
  | .hbm, ⟨16, _⟩ => ⟨S_, .i32⟩
  | .hbm, ⟨17, _⟩ => ⟨S_, .i32⟩
  | .hbm, ⟨18, _⟩ => ⟨S10000, .i32⟩
  | .hbm, ⟨19, _⟩ => ⟨S_, .i32⟩
  | .hbm, ⟨20, _⟩ => ⟨S320000, .i32⟩
  | .hbm, ⟨21, _⟩ => ⟨S_, .i32⟩
  | .hbm, ⟨22, _⟩ => ⟨S10000, .i32⟩
  | .hbm, ⟨23, _⟩ => ⟨S10000, .i1⟩
  | .hbm, ⟨24, _⟩ => ⟨S_, .i32⟩
  | .hbm, ⟨25, _⟩ => ⟨S10000, .i32⟩
  | .hbm, ⟨26, _⟩ => ⟨S10000, .i32⟩
  | .hbm, ⟨27, _⟩ => ⟨S10000, .i32⟩
  | .hbm, ⟨28, _⟩ => ⟨S10000x1, .i32⟩
  | .hbm, ⟨29, _⟩ => ⟨S_, .i32⟩
  | .hbm, ⟨30, _⟩ => ⟨S10000, .i32⟩
  | .hbm, ⟨31, _⟩ => ⟨S320000, .i32⟩
  | .hbm, ⟨32, _⟩ => ⟨S_, .i32⟩
  | .hbm, ⟨33, _⟩ => ⟨S_, .i32⟩
  | .hbm, ⟨34, _⟩ => ⟨S320000, .i32⟩
  | .hbm, ⟨35, _⟩ => ⟨S_, .i32⟩
  | .hbm, ⟨36, _⟩ => ⟨S320000, .i32⟩
  | .hbm, ⟨37, _⟩ => ⟨S320000, .i32⟩
  | .hbm, ⟨38, _⟩ => ⟨S_, .i32⟩
  | .hbm, ⟨39, _⟩ => ⟨S320000, .i32⟩
  | .hbm, ⟨40, _⟩ => ⟨S320000, .i1⟩
  | .hbm, ⟨41, _⟩ => ⟨S_, .i32⟩
  | .hbm, ⟨42, _⟩ => ⟨S320000, .i32⟩
  | .hbm, ⟨43, _⟩ => ⟨S320000, .i32⟩
  | .hbm, ⟨44, _⟩ => ⟨S320000, .i32⟩
  | .hbm, ⟨45, _⟩ => ⟨S320000x1, .i32⟩
  | .hbm, ⟨46, _⟩ => ⟨S1, .i32⟩
  | .hbm, ⟨47, _⟩ => ⟨S_, .i32⟩
  | .hbm, ⟨48, _⟩ => ⟨S320000x1, .i32⟩
  | .hbm, ⟨49, _⟩ => ⟨S320000x1, .i1⟩
  | .hbm, ⟨50, _⟩ => ⟨S1x1, .i32⟩
  | .hbm, ⟨51, _⟩ => ⟨S320000x1, .i32⟩
  | .hbm, ⟨52, _⟩ => ⟨S320000x1, .i1⟩
  | .hbm, ⟨53, _⟩ => ⟨S320000x1, .i1⟩
  | .hbm, ⟨54, _⟩ => ⟨S_, .i1⟩
  | .hbm, ⟨55, _⟩ => ⟨S320000, .i1⟩
  | .hbm, ⟨56, _⟩ => ⟨S320000, .i32⟩
  | .hbm, ⟨57, _⟩ => ⟨S_, .i32⟩
  | .hbm, ⟨58, _⟩ => ⟨S320000, .i32⟩
  | .hbm, ⟨59, _⟩ => ⟨S320000, .i32⟩
  | .hbm, ⟨60, _⟩ => ⟨S128x128, .f32⟩
  | .hbm, ⟨61, _⟩ => ⟨S320000x128, .f32⟩
  | .hbm, ⟨62, _⟩ => ⟨S1x128, .f32⟩
  | .hbm, ⟨63, _⟩ => ⟨S320000x128, .f32⟩
  | .hbm, ⟨64, _⟩ => ⟨S320000x128, .f32⟩
  | .hbm, ⟨65, _⟩ => ⟨S128x128, .f32⟩
  | .hbm, ⟨66, _⟩ => ⟨S320000x128, .f32⟩
  | .hbm, ⟨67, _⟩ => ⟨S320000x128, .f32⟩
  | .hbm, ⟨68, _⟩ => ⟨S320000x128, .f32⟩
  | .hbm, ⟨69, _⟩ => ⟨S320000x128, .f32⟩
  | .hbm, ⟨70, _⟩ => ⟨S_, .f32⟩
  | .hbm, ⟨71, _⟩ => ⟨S320000x128, .f32⟩
  | .hbm, ⟨72, _⟩ => ⟨S320000x128, .f32⟩
  | .hbm, ⟨73, _⟩ => ⟨S_, .f32⟩
  | .hbm, ⟨74, _⟩ => ⟨S320000x128, .f32⟩
  | .hbm, ⟨75, _⟩ => ⟨S320000x128, .f32⟩
  | .hbm, ⟨76, _⟩ => ⟨S128x1, .f32⟩
  | .hbm, ⟨77, _⟩ => ⟨S320000x1, .f32⟩
  | .hbm, ⟨78, _⟩ => ⟨S1x320000, .i32⟩
  | .hbm, ⟨79, _⟩ => ⟨S10000, .i32⟩
  | .hbm, ⟨80, _⟩ => ⟨S10000x1, .i32⟩
  | .hbm, ⟨81, _⟩ => ⟨S10000x320000, .i32⟩
  | .hbm, ⟨82, _⟩ => ⟨S10000x320000, .i32⟩
  | .hbm, ⟨83, _⟩ => ⟨S10000x320000, .i1⟩
  | .hbm, ⟨84, _⟩ => ⟨S1x320000, .f32⟩
  | .hbm, ⟨85, _⟩ => ⟨S_, .f32⟩
  | .hbm, ⟨86, _⟩ => ⟨S_, .f32⟩
  | .hbm, ⟨87, _⟩ => ⟨S10000x320000, .f32⟩
  | .hbm, ⟨88, _⟩ => ⟨S10000x320000, .f32⟩
  | .hbm, ⟨89, _⟩ => ⟨S10000x320000, .f32⟩
  | .hbm, ⟨90, _⟩ => ⟨S_, .f32⟩
  | .hbm, ⟨91, _⟩ => ⟨S10000, .f32⟩
  | .hbm, ⟨92, _⟩ => ⟨S10000x1, .f32⟩
  | .hbm, ⟨93, _⟩ => ⟨S_, .i32⟩
  | .hbm, ⟨94, _⟩ => ⟨S320000, .i32⟩
  | .hbm, ⟨95, _⟩ => ⟨S320000, .i1⟩
  | .hbm, ⟨96, _⟩ => ⟨S_, .i32⟩
  | .hbm, ⟨97, _⟩ => ⟨S320000, .i32⟩
  | .hbm, ⟨98, _⟩ => ⟨S320000, .i32⟩
  | .hbm, ⟨99, _⟩ => ⟨S320000, .i32⟩
  | .hbm, ⟨100, _⟩ => ⟨S320000x1, .i32⟩
  | .hbm, ⟨101, _⟩ => ⟨S320000x1, .f32⟩
  | .hbm, ⟨102, _⟩ => ⟨S320000x1, .f32⟩
  | .hbm, ⟨103, _⟩ => ⟨S320000x1, .f32⟩
  | .hbm, ⟨104, _⟩ => ⟨S_, .f32⟩
  | .hbm, ⟨105, _⟩ => ⟨S10000x1, .f32⟩
  | .hbm, ⟨106, _⟩ => ⟨S320000x1, .i32⟩
  | .hbm, ⟨107, _⟩ => ⟨S10000x1, .f32⟩
  | .hbm, ⟨108, _⟩ => ⟨S_, .i32⟩
  | .hbm, ⟨109, _⟩ => ⟨S320000, .i32⟩
  | .hbm, ⟨110, _⟩ => ⟨S320000, .i1⟩
  | .hbm, ⟨111, _⟩ => ⟨S_, .i32⟩
  | .hbm, ⟨112, _⟩ => ⟨S320000, .i32⟩
  | .hbm, ⟨113, _⟩ => ⟨S320000, .i32⟩
  | .hbm, ⟨114, _⟩ => ⟨S320000, .i32⟩
  | .hbm, ⟨115, _⟩ => ⟨S320000x1, .i32⟩
  | .hbm, ⟨116, _⟩ => ⟨S320000x1, .f32⟩
  | .hbm, ⟨117, _⟩ => ⟨S320000x1, .f32⟩
  | .hbm, ⟨118, _⟩ => ⟨S320000x128, .f32⟩
  | .hbm, ⟨119, _⟩ => ⟨S320000x128, .f32⟩
  | .hbm, ⟨120, _⟩ => ⟨S_, .f32⟩
  | .hbm, ⟨121, _⟩ => ⟨S10000x128, .f32⟩
  | .hbm, ⟨122, _⟩ => ⟨S320000x1, .i32⟩
  | .hbm, ⟨123, _⟩ => ⟨S10000x128, .f32⟩
  | .hbm, ⟨124, _⟩ => ⟨S128x128, .f32⟩
  | .hbm, ⟨125, _⟩ => ⟨S10000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_call1_call0_c : Ref sig .tc := ⟨.hbm, 16, rfl⟩
abbrev main_call1_call0_v0 : Ref sig .tc := ⟨.hbm, 17, rfl⟩
abbrev main_v4 : Ref sig .tc := ⟨.hbm, 18, rfl⟩
abbrev main_c_1 : Ref sig .tc := ⟨.hbm, 19, rfl⟩
abbrev main_v5 : Ref sig .tc := ⟨.hbm, 20, rfl⟩
abbrev main_c_2 : Ref sig .tc := ⟨.hbm, 21, rfl⟩
abbrev main_v6 : Ref sig .tc := ⟨.hbm, 22, rfl⟩
abbrev main_v7 : Ref sig .tc := ⟨.hbm, 23, rfl⟩
abbrev main_c_3 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_4 : Ref sig .tc := ⟨.hbm, 29, rfl⟩
abbrev main_v12 : Ref sig .tc := ⟨.hbm, 30, rfl⟩
abbrev main_v13 : Ref sig .tc := ⟨.hbm, 31, rfl⟩
abbrev main_call2_call0_c : Ref sig .tc := ⟨.hbm, 32, rfl⟩
abbrev main_call2_call0_v0 : Ref sig .tc := ⟨.hbm, 33, rfl⟩
abbrev main_v14 : Ref sig .tc := ⟨.hbm, 34, rfl⟩
abbrev main_c_5 : Ref sig .tc := ⟨.hbm, 35, rfl⟩
abbrev main_v15 : Ref sig .tc := ⟨.hbm, 36, rfl⟩
abbrev main_v16 : Ref sig .tc := ⟨.hbm, 37, rfl⟩
abbrev main_call3_c : Ref sig .tc := ⟨.hbm, 38, rfl⟩
abbrev main_call3_v0 : Ref sig .tc := ⟨.hbm, 39, rfl⟩
abbrev main_call3_v1 : Ref sig .tc := ⟨.hbm, 40, rfl⟩
abbrev main_call3_c_0 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_call3_v5 : Ref sig .tc := ⟨.hbm, 45, rfl⟩
abbrev main_call3_c_1 : Ref sig .tc := ⟨.hbm, 46, rfl⟩
abbrev main_call3_c_2 : Ref sig .tc := ⟨.hbm, 47, rfl⟩
abbrev main_call3_v6 : Ref sig .tc := ⟨.hbm, 48, rfl⟩
abbrev main_call3_v7 : Ref sig .tc := ⟨.hbm, 49, rfl⟩
abbrev main_call3_v8 : Ref sig .tc := ⟨.hbm, 50, rfl⟩
abbrev main_call3_v9 : Ref sig .tc := ⟨.hbm, 51, rfl⟩
abbrev main_call3_v10 : Ref sig .tc := ⟨.hbm, 52, rfl⟩
abbrev main_call3_v11 : Ref sig .tc := ⟨.hbm, 53, rfl⟩
abbrev main_call3_c_3 : Ref sig .tc := ⟨.hbm, 54, rfl⟩
abbrev main_call3_v12 : Ref sig .tc := ⟨.hbm, 55, rfl⟩
abbrev main_call3_v13 : Ref sig .tc := ⟨.hbm, 56, rfl⟩
abbrev main_call3_c_4 : Ref sig .tc := ⟨.hbm, 57, rfl⟩
abbrev main_call3_v14 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst : Ref sig .tc := ⟨.hbm, 70, rfl⟩
abbrev main_v28 : Ref sig .tc := ⟨.hbm, 71, rfl⟩
abbrev main_v29 : Ref sig .tc := ⟨.hbm, 72, rfl⟩
abbrev main_cst_6 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_7 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v41 : Ref sig .tc := ⟨.hbm, 89, rfl⟩
abbrev main_cst_8 : Ref sig .tc := ⟨.hbm, 90, rfl⟩
abbrev main_v42 : Ref sig .tc := ⟨.hbm, 91, rfl⟩
abbrev main_v43 : Ref sig .tc := ⟨.hbm, 92, rfl⟩
abbrev main_c_9 : Ref sig .tc := ⟨.hbm, 93, rfl⟩
abbrev main_v44 : Ref sig .tc := ⟨.hbm, 94, rfl⟩
abbrev main_v45 : Ref sig .tc := ⟨.hbm, 95, rfl⟩
abbrev main_c_10 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_11 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_c_12 : Ref sig .tc := ⟨.hbm, 108, rfl⟩
abbrev main_v56 : Ref sig .tc := ⟨.hbm, 109, rfl⟩
abbrev main_v57 : Ref sig .tc := ⟨.hbm, 110, rfl⟩
abbrev main_c_13 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_14 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩

abbrev nD : Nat := 1
abbrev τ : Topo := Topo.v7x

variable {F : FTy → Type} [FloatOps F]
-- ==== Proof.Softmax.lean ====
/-
  The mathematics of one segment's softmax readout over the extended reals, with no program in sight: the sigmoid gate
  as a real number, the half-angle identity `tanh (z / 2) = 2 σ(z) - 1` at every extended real, the score of an item
  as a real sum, and the two forms of the readout — numerator times the reciprocal of the denominator, and the sum of
  the values weighted by the softmax — proved equal.
-/
module

public import Idealize.ShloMosaic.PureOps.Ideal
public import Mathlib.Analysis.SpecialFunctions.Pow.Real

@[expose] public section

noncomputable section

namespace Cert.Readout

open Idealize.ShloMosaic

/-! ## Sums of extended reals -/

/-- A finite sum of reals, read as extended reals, is the sum of their readings. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A nonnegative real factor comes out of a finite sum of extended reals, whatever the terms are. -/
theorem sum_mul_real {ι : Type} (t : Finset ι) (f : ι → EReal) {c : ℝ} (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha,
      EReal.right_distrib_of_nonneg_of_ne_top (EReal.coe_nonneg.2 hc) (EReal.coe_ne_top c), ih]

/-- A row times a column of halves is half the row times the column. -/
theorem sum_mul_half {ι : Type} [Fintype ι] (x w : ι → EReal) {c : ℝ} (hc : 0 ≤ c) :
    ∑ k, x k * (w k * (c : EReal)) = (∑ k, x k * w k) * (c : EReal) := by
  rw [sum_mul_real _ _ hc]
  exact Finset.sum_congr rfl fun k _ => (mul_assoc _ _ _).symm

/-! ## The gate -/

/-- The sigmoid of an extended real, as a real number: `0` at `⊥` and `1` at `⊤`. -/
def gate (z : EReal) : ℝ := (Ideal.logistic z).toReal

/-- The sigmoid of every extended real is a real number. -/
theorem logistic_eq_gate (z : EReal) : Ideal.logistic z = (gate z : EReal) := by
  induction z with
  | bot => simp [gate]
  | coe r => simp [gate]
  | top => simp [gate]

/-- The hyperbolic tangent of half of `z` is twice the sigmoid of `z` less one, at every extended real. -/
theorem tanh_half (z : EReal) : Ideal.tanh (z * ((1 / 2 : ℝ) : EReal)) = ((2 * gate z - 1 : ℝ) : EReal) := by
  have h2 : (0 : ℝ) < 1 / 2 := by norm_num
  induction z with
  | bot =>
    rw [EReal.bot_mul_coe_of_pos h2, Ideal.tanh_bot, gate, Ideal.logistic_bot]
    norm_num
  | top =>
    rw [EReal.top_mul_coe_of_pos h2, Ideal.tanh_top, gate, Ideal.logistic_top]
    norm_num
  | coe r =>
    rw [← EReal.coe_mul, Ideal.tanh_coe, gate, Ideal.logistic_coe, EReal.toReal_coe]
    refine congrArg _ ?_
    have hp := Real.exp_pos (r * (1 / 2))
    have e1 : Real.exp (-r) = (Real.exp (r * (1 / 2)) * Real.exp (r * (1 / 2)))⁻¹ := by
      rw [← Real.exp_add, ← Real.exp_neg]
      congr 1
      ring
    rw [Real.tanh_eq_sinh_div_cosh, Real.sinh_eq, Real.cosh_eq, Real.exp_neg, e1]
    generalize Real.exp (r * (1 / 2)) = a at hp
    have : 1 + (a * a)⁻¹ ≠ 0 := by positivity
    have : a + a⁻¹ ≠ 0 := by positivity
    field_simp
    ring

/-! ## The score -/

/-- The score of an item: the gates against the weights, a real number when the weights are. -/
def score {ι : Type} [Fintype ι] (g w : ι → ℝ) : ℝ := ∑ h, g h * w h

/-- The sum of the sigmoids times the weights is the score. -/
theorem sum_logistic {ι : Type} [Fintype ι] (z : ι → EReal) (w : ι → ℝ) :
    ∑ h, Ideal.logistic (z h) * (w h : EReal) = (score (fun h => gate (z h)) w : EReal) := by
  rw [score, coe_sum]
  exact Finset.sum_congr rfl fun h _ => by rw [logistic_eq_gate, EReal.coe_mul]

/-- Two to the power of the sum of the tangents times the weights, the weights scaled by `1 / (2 log 2)`, is the
    exponential of the score less half the sum of the weights. -/
theorem exp2_sum_tanh {ι : Type} [Fintype ι] (z : ι → EReal) (w : ι → ℝ) :
    Ideal.exp2 (∑ h, Ideal.tanh (z h * ((1 / 2 : ℝ) : EReal)) * ((w h : EReal) * (((2 * Real.log 2)⁻¹ : ℝ) : EReal)))
      = (Real.exp (score (fun h => gate (z h)) w - (∑ h, w h) / 2) : EReal) := by
  have e : ∑ h, Ideal.tanh (z h * ((1 / 2 : ℝ) : EReal)) * ((w h : EReal) * (((2 * Real.log 2)⁻¹ : ℝ) : EReal))
      = ((∑ h, (2 * gate (z h) - 1) * (w h * (2 * Real.log 2)⁻¹) : ℝ) : EReal) := by
    rw [coe_sum]
    exact Finset.sum_congr rfl fun h _ => by rw [tanh_half, EReal.coe_mul, EReal.coe_mul]
  rw [e, Ideal.exp2_coe]
  refine congrArg _ ?_
  show (2 : ℝ) ^ (_ : ℝ) = _
  have hl : Real.log 2 ≠ 0 := (Real.log_pos (by norm_num)).ne'
  rw [Real.rpow_def_of_pos (by norm_num : (0 : ℝ) < 2)]
  congr 1
  rw [score, Finset.mul_sum, Finset.sum_div, ← Finset.sum_sub_distrib]
  refine Finset.sum_congr rfl fun h _ => ?_
  field_simp

/-! ## The softmax of one segment -/

/-- The softmax weight of item `j` of a segment with scores `s`. -/
def weight {ι : Type} [Fintype ι] (s : ι → ℝ) (j : ι) : ℝ := Real.exp (s j) / ∑ i, Real.exp (s i)

/-- Scores shifted by a constant have exponentials scaled by a constant. -/
theorem weight_shift {ι : Type} [Fintype ι] [Nonempty ι] (s : ι → ℝ) (c : ℝ) (j : ι) :
    Real.exp (s j - c) / ∑ i, Real.exp (s i - c) = weight s j := by
  have hpos : (0 : ℝ) < ∑ i, Real.exp (s i) := Finset.sum_pos (fun i _ => Real.exp_pos _) Finset.univ_nonempty
  have hc := Real.exp_pos c
  simp only [weight, Real.exp_sub, ← Finset.sum_div]
  field_simp

/-- The denominator is positive. -/
theorem sum_exp_pos {ι : Type} [Fintype ι] [Nonempty ι] (s : ι → ℝ) (c : ℝ) : 0 < ∑ i, Real.exp (s i - c) :=
  Finset.sum_pos (fun i _ => Real.exp_pos _) Finset.univ_nonempty

/-- The exponential of a score less the segment's shift, over the sum of them, is the softmax weight: the shift, any
    real number, cancels. -/
theorem div_exp_eq_weight {ι : Type} [Fintype ι] [Nonempty ι] (s : ι → ℝ) (c : ℝ) (j : ι) :
    Ideal.div (Ideal.exp ((s j : EReal) - (c : EReal))) (∑ i, Ideal.exp ((s i : EReal) - (c : EReal))) = (weight s j : EReal) := by
  have e : ∀ i, Ideal.exp ((s i : EReal) - (c : EReal)) = (Real.exp (s i - c) : EReal) := fun i => by
    rw [← EReal.coe_sub, Ideal.exp_coe]
  simp only [e]
  rw [← coe_sum, Ideal.div_coe (sum_exp_pos s c).ne', ← EReal.coe_mul, mul_one_div, weight_shift]

/-- The weighted sum of the values times the reciprocal of the sum of the weights is the sum of the values times
    their softmax weights: the reciprocal is a nonnegative real, so it distributes whatever the values are. -/
theorem num_mul_inv_den {ι : Type} [Fintype ι] [Nonempty ι] (s : ι → ℝ) (c : ℝ) (f : ι → EReal) :
    (∑ j, (Real.exp (s j - c) : EReal) * f j) * Ideal.div 1 (∑ j, (Real.exp (s j - c) : EReal))
      = ∑ j, f j * (weight s j : EReal) := by
  have hpos := sum_exp_pos s c
  rw [← coe_sum, Ideal.div_coe hpos.ne', one_mul, sum_mul_real _ _ (by positivity)]
  refine Finset.sum_congr rfl fun j _ => ?_
  rw [mul_comm (_ : EReal) (f j), mul_assoc, ← EReal.coe_mul, mul_one_div, weight_shift]

/-- The largest of finitely many values, each a real number or `⊥` and one of them real, is a real number. -/
theorem fold_max_real {ι : Type} (t : Finset ι) (v : ι → EReal) (hv : ∀ i ∈ t, v i ≠ ⊤) (i₀ : ι) (h₀ : i₀ ∈ t)
    (hr : v i₀ ≠ ⊥) : ∃ M : ℝ, t.fold max ⊥ v = (M : EReal) := by
  have htop : t.fold max ⊥ v ≠ ⊤ := by
    refine ne_of_lt ((Finset.fold_max_lt _).2 ⟨bot_lt_top, fun i hi => lt_top_iff_ne_top.2 (hv i hi)⟩)
  have hbot : t.fold max ⊥ v ≠ ⊥ := by
    refine ne_of_gt (lt_of_lt_of_le (bot_lt_iff_ne_bot.2 hr) ?_)
    exact (Finset.le_fold_max _).2 (Or.inr ⟨i₀, h₀, le_rfl⟩)
  exact ⟨_, (EReal.coe_toReal htop hbot).symm⟩

end Cert.Readout

end
-- ==== Proof.Scatter.lean ====
/-
  The two scatters of the reference, read at one element where their index words are known. The counting scatter adds
  a one at position `32 i` for every segment `i`. The summing scatters (one column, or 128) add row `n` of the updates
  into row `n / 32`, so that row `b` of the result is the sum of the 32 items of segment `b`.
-/
module

public import proofs.«01_k».proof.Proof.Gen.ReferenceIdeal
public import Idealize.ShloMosaic.Lib.Routing.OpsSet
public import Idealize.ShloMosaic.Lib.Routing.OpsSearch
public import Idealize.ShloMosaic.Lib.Routing.OpsOne

@[expose] public section

namespace Cert.Readout

open Idealize.ShloMosaic Idealize.ShloMosaic.Routing Idealize.ShloMosaic.ValueIdx
open Cert.ReferenceIdeal Cert.ReferenceIdeal.Gen

/-! ## Items and segments -/

/-- Item `k` of segment `b`, among the 320000 items. -/
def item (b : Fin 10000) (k : Fin 32) : Fin 320000 := ⟨32 * b.val + k.val, by omega⟩

/-- The segment that an item belongs to. -/
def seg (n : Fin 320000) : Fin 10000 := ⟨n.val / 32, by omega⟩

/-- Item `k` of segment `b` belongs to segment `b`. -/
theorem seg_item (b : Fin 10000) (k : Fin 32) : seg (item b k) = b := by
  apply Fin.ext
  show (32 * b.val + k.val) / 32 = b.val
  omega

/-- An item of segment `b` is item `k` of it for some `k`. -/
theorem eq_item (b : Fin 10000) (n : Fin 320000) (h : seg n = b) : ∃ k : Fin 32, n = item b k := by
  subst h
  refine ⟨⟨n.val % 32, by omega⟩, Fin.ext ?_⟩
  show n.val = 32 * (n.val / 32) + n.val % 32
  omega

/-- A segment's items are distinct. -/
theorem item_inj (b : Fin 10000) (k k' : Fin 32) (h : item b k = item b k') : k = k' := by
  have e : 32 * b.val + k.val = 32 * b.val + k'.val := congrArg Fin.val h
  exact Fin.ext (by omega)

/-! ## The counting scatter -/

/-- Where an update of the counting scatter starts: at its index word, read signed. -/
theorem hist_start (idx : IVec S10000x1 32) (i : Fin 10000) :
    scatter_S320000_S10000x1_S10000_n_0_0_1.start (ix1 i) idx 0 = (idx (ix2 i (0 : Fin 1))).toInt := by
  unfold ScatterDims.start
  rw [dif_pos (by exact List.mem_singleton.2 rfl)]
  refine congrArg (fun k => (idx k).toInt) (funext fun a => ?_)
  match a with
  | ⟨0, _⟩ => rfl
  | ⟨1, _⟩ => rfl

/-- Update `i` of the counting scatter, whose word is `32 i`, lands at position `x` exactly when `x` is `32 i`. -/
theorem hist_lands (idx : IVec S10000x1 32) (hidx : ∀ i : Fin 10000, idx (ix2 i (0 : Fin 1)) = BitVec.ofNat 32 (32 * i.val))
    (i : Fin 10000) (x : Fin 320000) :
    scatter_S320000_S10000x1_S10000_n_0_0_1.resultIdx? (ix1 i) idx = some (ix1 x) ↔ 32 * i.val = x.val := by
  rw [resultIdx?_ix1, hist_start, hidx, StableHlo.Predicate.toInt_ofNat_small _ (by omega)]
  show (_ : Int) + ((0 : Nat) : Int) = _ ↔ _
  omega

/-- Adding a one for each member of a list that meets a condition counts those members. -/
theorem foldl_ones {ι : Type} (p : ι → Prop) [DecidablePred p] (l : List ι) (z : Nat) :
    l.foldl (fun a i => if p i then IntOp.addi a 1#32 else a) (BitVec.ofNat 32 z)
      = BitVec.ofNat 32 (z + l.countP (fun i => decide (p i))) := by
  induction l generalizing z with
  | nil => rfl
  | cons i l ih =>
    rw [List.foldl_cons, List.countP_cons]
    by_cases h : p i
    · rw [if_pos h, show IntOp.addi (BitVec.ofNat 32 z) 1#32 = BitVec.ofNat 32 (z + 1) from (BitVec.ofNat_add z 1).symm, ih,
        if_pos (decide_eq_true h)]
      congr 1
      omega
    · rw [if_neg h, ih, if_neg (by simpa using h)]
      rfl

/-- Of the numbers `32 i` with `i < 10000`, one is `x` if 32 divides `x`, and none is if it does not. -/
theorem count_multiples (x : Fin 320000) :
    Nat.count (fun i => 32 * i = x.val) 10000 = if x.val % 32 = 0 then 1 else 0 := by
  rw [Nat.count_eq_card_filter_range]
  have hx := x.isLt
  split
  · next h =>
    refine Finset.card_eq_one.2 ⟨x.val / 32, Finset.ext fun i => ?_⟩
    rw [Finset.mem_filter, Finset.mem_range, Finset.mem_singleton]
    omega
  · next h =>
    refine Finset.card_eq_zero.2 (Finset.filter_eq_empty_iff.2 fun i _ => ?_)
    omega

/-- The counting scatter of ones at the positions `32 i` into zeros: one at the multiples of 32, zero elsewhere. -/
theorem hist_at (x0 : IVec S320000 32) (hx0 : ∀ i, x0 i = 0#32) (upd : IVec S10000 32) (hupd : ∀ i, upd i = 1#32)
    (idx : IVec S10000x1 32) (hidx : ∀ i : Fin 10000, idx (ix2 i (0 : Fin 1)) = BitVec.ofNat 32 (32 * i.val)) (x : Fin 320000) :
    Host.scatter scatter_S320000_S10000x1_S10000_n_0_0_1 IntOp.addi x0 idx upd (ix1 x)
      = BitVec.ofNat 32 (if x.val % 32 = 0 then 1 else 0) := by
  rw [scatter_at, hx0, ← count_multiples, ← countP_finRange]
  have step : ∀ (M : Nat) (hM : M = 10000),
      (List.finRange M).foldl (fun a (n : Fin M) => if 32 * n.val = x.val then IntOp.addi a 1#32 else a) 0#32
        = BitVec.ofNat 32 ((List.finRange 10000).countP fun n => decide (32 * n.val = x.val)) := by
    rintro M rfl
    exact (foldl_ones (fun n : Fin 10000 => 32 * n.val = x.val) _ 0).trans (by rw [Nat.zero_add])
  refine Eq.trans (congrArg (fun f => List.foldl f 0#32 (List.finRange S10000.numel)) ?_) (step S10000.numel (numel1 10000))
  funext a n
  rw [hupd, symm1]
  exact if_congr (hist_lands idx hidx (n.cast (numel1 10000)) x) rfl rfl

/-! ## The summing scatters -/

/-- Where a row of the summing scatter over 128 columns starts: at its index word, read signed. -/
theorem rows_start (idx : IVec S320000x1 32) (n : Fin 320000) (d : Fin 128) :
    scatter_S10000x128_S320000x1_S320000x128_1_0_0_1.start (ix2 n d) idx 0 = (idx (ix2 n (0 : Fin 1))).toInt := by
  unfold ScatterDims.start
  rw [dif_pos (by exact List.mem_singleton.2 rfl)]
  refine congrArg (fun k => (idx k).toInt) (funext fun a => ?_)
  match a with
  | ⟨0, _⟩ => rfl
  | ⟨1, _⟩ => rfl

/-- Where a row of the summing scatter over one column starts: at its index word, read signed. -/
theorem col_start (idx : IVec S320000x1 32) (n : Fin 320000) (d : Fin 1) :
    scatter_S10000x1_S320000x1_S320000x1_1_0_0_1.start (ix2 n d) idx 0 = (idx (ix2 n (0 : Fin 1))).toInt := by
  unfold ScatterDims.start
  rw [dif_pos (by exact List.mem_singleton.2 rfl)]
  refine congrArg (fun k => (idx k).toInt) (funext fun a => ?_)
  match a with
  | ⟨0, _⟩ => rfl
  | ⟨1, _⟩ => rfl

/-- Entry `(n, d)` of the updates lands at `(b, d')` exactly when `n` is an item of segment `b` and `d` is `d'`. -/
theorem rows_lands (idx : IVec S320000x1 32) (hidx : ∀ n : Fin 320000, idx (ix2 n (0 : Fin 1)) = BitVec.ofNat 32 (n.val / 32))
    (n : Fin 320000) (d d' : Fin 128) (b : Fin 10000) :
    scatter_S10000x128_S320000x1_S320000x128_1_0_0_1.resultIdx? (ix2 n d) idx = some (ix2 b d') ↔ seg n = b ∧ d = d' := by
  rw [resultIdx?_ix2, rows_start, hidx, StableHlo.Predicate.toInt_ofNat_small _ (by omega), Fin.ext_iff, Fin.ext_iff]
  show ((n.val / 32 : Nat) : Int) + ((0 : Nat) : Int) = _ ∧ (0 : Int) + (d.val : Int) = _ ↔ n.val / 32 = _ ∧ _
  omega

/-- The same with one column. -/
theorem col_lands (idx : IVec S320000x1 32) (hidx : ∀ n : Fin 320000, idx (ix2 n (0 : Fin 1)) = BitVec.ofNat 32 (n.val / 32))
    (n : Fin 320000) (d d' : Fin 1) (b : Fin 10000) :
    scatter_S10000x1_S320000x1_S320000x1_1_0_0_1.resultIdx? (ix2 n d) idx = some (ix2 b d') ↔ seg n = b ∧ d = d' := by
  rw [resultIdx?_ix2, col_start, hidx, StableHlo.Predicate.toInt_ofNat_small _ (by omega), Fin.ext_iff, Fin.ext_iff]
  show ((n.val / 32 : Nat) : Int) + ((0 : Nat) : Int) = _ ∧ (0 : Int) + (d.val : Int) = _ ↔ n.val / 32 = _ ∧ _
  omega

/-- The updates that land at `(b, d)` are the 32 items of segment `b`, at column `d`. -/
theorem sum_landing {C : Nat} (P : (shape2 320000 C).Idx → Prop) [DecidablePred P] (b : Fin 10000) (d : Fin C)
    (hP : ∀ (n : Fin 320000) (d' : Fin C), P (ix2 n d') ↔ seg n = b ∧ d' = d) (upd : (shape2 320000 C).Idx → EReal) :
    ∑ j ∈ Finset.univ.filter P, upd j = ∑ k : Fin 32, upd (ix2 (item b k) d) := by
  refine (Finset.sum_bij (fun k _ => ix2 (item b k) d) (fun k _ => ?_) (fun k _ k' _ h => ?_) (fun j hj => ?_) fun _ _ => rfl).symm
  · exact Finset.mem_filter.2 ⟨Finset.mem_univ _, (hP _ _).2 ⟨seg_item b k, rfl⟩⟩
  · exact item_inj b k k' (congrFun h 0)
  · obtain ⟨n, d', rfl⟩ : ∃ (n : Fin 320000) (d' : Fin C), j = ix2 n d' := ⟨j 0, j 1, eq_ix2 j⟩
    obtain ⟨hn, rfl⟩ := (hP n d').1 (Finset.mem_filter.1 hj).2
    obtain ⟨k, rfl⟩ := eq_item b n hn
    exact ⟨k, Finset.mem_univ _, rfl⟩

/-- Row `b` of the summing scatter over 128 columns is the row of the operand plus the sum of segment `b`'s 32 rows. -/
theorem rows_at (x : S10000x128.Idx → EReal) (idx : IVec S320000x1 32)
    (hidx : ∀ n : Fin 320000, idx (ix2 n (0 : Fin 1)) = BitVec.ofNat 32 (n.val / 32)) (upd : S320000x128.Idx → EReal)
    (b : Fin 10000) (d : Fin 128) :
    Ideal.hostScatterAdd scatter_S10000x128_S320000x1_S320000x128_1_0_0_1 x idx upd (ix2 b d)
      = x (ix2 b d) + ∑ k : Fin 32, upd (ix2 (item b k) d) :=
  congrArg (x (ix2 b d) + ·) (sum_landing _ b d (fun n d' => rows_lands idx hidx n d' d b) upd)

/-- The same with one column. -/
theorem col_at (x : S10000x1.Idx → EReal) (idx : IVec S320000x1 32)
    (hidx : ∀ n : Fin 320000, idx (ix2 n (0 : Fin 1)) = BitVec.ofNat 32 (n.val / 32)) (upd : S320000x1.Idx → EReal)
    (b : Fin 10000) (d : Fin 1) :
    Ideal.hostScatterAdd scatter_S10000x1_S320000x1_S320000x1_1_0_0_1 x idx upd (ix2 b d)
      = x (ix2 b d) + ∑ k : Fin 32, upd (ix2 (item b k) d) :=
  congrArg (x (ix2 b d) + ·) (sum_landing _ b d (fun n d' => col_lands idx hidx n d' d b) upd)

end Cert.Readout
-- ==== Proof.Model.lean ====
/-
  What both programs compute, written once over the arguments' arrays: an item's pre-activation, its score, the softmax
  readout of a segment of 32 items, and the readout times the output matrix.
-/
module

public import proofs.«01_k».proof.Proof.Softmax
public import proofs.«01_k».proof.Proof.Scatter

@[expose] public section

noncomputable section

namespace Cert.Readout

open Idealize.ShloMosaic Idealize.ShloMosaic.Routing Idealize.ShloMosaic.ValueIdx

/-- The float arguments: the items' features and contexts, the matrices `U` and `V`, the bias, the score's weights and
    the output matrix. -/
@[ext] structure Args where
  feats : (shape2 320000 128).Idx → EReal
  ctx : (shape2 320000 128).Idx → EReal
  wu : (shape2 128 128).Idx → EReal
  bu : (shape1 128).Idx → EReal
  wv : (shape2 128 128).Idx → EReal
  we : (shape2 1 128).Idx → EReal
  wout : (shape2 128 128).Idx → EReal

namespace Args

variable (A : Args)

/-- The pre-activation of item `n` at hidden unit `h`: `x_n · U_h + b_h + c_n · V_h`. -/
def preact (n : Fin 320000) (h : Fin 128) : EReal :=
  (∑ k : Fin 128, A.feats (ix2 n k) * A.wu (ix2 h k)) + A.bu (ix1 h) + ∑ k : Fin 128, A.ctx (ix2 n k) * A.wv (ix2 h k)

/-- The score's weight of hidden unit `h`, as a real number. -/
def weightE (h : Fin 128) : ℝ := (A.we (ix2 (0 : Fin 1) h)).toReal

/-- The score of item `n`: the sigmoids of its pre-activations against the score's weights. -/
def itemScore (n : Fin 320000) : ℝ := score (fun h => gate (A.preact n h)) A.weightE

/-- The readout of segment `b`: the features of its 32 items weighted by the softmax of their scores. -/
def readout (b : Fin 10000) (d : Fin 128) : EReal :=
  ∑ k : Fin 32, A.feats (ix2 (item b k) d) * (weight (fun k' => A.itemScore (item b k')) k : EReal)

/-- The result: the readout times the transposed output matrix. -/
def result (b : Fin 10000) (o : Fin 128) : EReal := ∑ d : Fin 128, A.readout b d * A.wout (ix2 o d)

/-- The score's weights are real numbers. -/
def Finite : Prop := ∀ h : Fin 128, A.we (ix2 (0 : Fin 1) h) = (A.weightE h : EReal)

end Args

end Cert.Readout

end
-- ==== Proof.Consts.lean ====
/-
  The float constants of the two programs as extended reals.
-/
module

public import Idealize.ShloMosaic.PureOps.Ideal
public import Idealize.ShloMosaic.Lib.IdealHost
public import Mathlib.Tactic.NormNum

@[expose] public section

noncomputable section

namespace Cert.Readout

open Idealize.ShloMosaic

/-- The `f32` constant `0.5` is a half. -/
theorem half_f32 : Ideal.ofBits .f32 0x3F000000#32 = ((1 / 2 : ℝ) : EReal) := by
  simp [Ideal.ofBits, Ideal.ieee, -EReal.coe_mul]
  norm_num

/-- The `f32` constant minus infinity is `⊥`. -/
theorem neg_inf_f32 : Ideal.ofBits .f32 0xFF800000#32 = ⊥ := by
  simp [Ideal.ofBits, Ideal.ieee, -EReal.coe_mul]

/-- The `f32` constant infinity is `⊤`. -/
theorem inf_f32 : Ideal.ofBits .f32 0x7F800000#32 = ⊤ := by
  simp [Ideal.ofBits, Ideal.ieee, -EReal.coe_mul]

end Cert.Readout

end
-- ==== Proof.RefScore.lean ====
/-
  The reference's scores at an item: the sigmoid of the pre-activations against the score's weights.
-/
module

public import proofs.«01_k».proof.Proof.Gen.ReferenceIdeal.Run
public import proofs.«01_k».proof.Proof.Model
public import proofs.«01_k».proof.Proof.Consts
public import Idealize.ShloMosaic.Lib.Pointwise

@[expose] public section

set_option maxRecDepth 16384

noncomputable section

namespace Cert.Readout

open Idealize.ShloMosaic hiding ix1 ix2 eq_ix2
open Idealize.ShloMosaic.Routing Idealize.ShloMosaic.ValueIdx Idealize.ShloMosaic.StableHlo
open Cert.ReferenceIdeal Cert.ReferenceIdeal.Gen Cert.ReferenceIdeal.Value

/-- The float arguments of the reference. -/
def refArgs (V0 : Valuation τ sig (Elt Ideal)) : Args where
  feats := V0 (Proc.devRef .tc main_arg0)
  ctx := V0 (Proc.devRef .tc main_arg1)
  wu := V0 (Proc.devRef .tc main_arg3)
  bu := V0 (Proc.devRef .tc main_arg4)
  wv := V0 (Proc.devRef .tc main_arg5)
  we := V0 (Proc.devRef .tc main_arg6)
  wout := V0 (Proc.devRef .tc main_arg7)

variable (V0 : Valuation τ sig (Elt Ideal))

/-- The reference's score of item `n`. -/
def refScore (n : Fin 320000) : EReal := res_main_v33 V0 (ix2 n (0 : Fin 1))

/-- The score of item `n` is the sum of the sigmoids of its pre-activations times the weights. -/
theorem scores_sum (n : Fin 320000) :
    refScore V0 n = ∑ h : Fin 128, Ideal.logistic ((refArgs V0).preact n h) * (refArgs V0).we (ix2 (0 : Fin 1) h) := by
  unfold refScore res_main_v33
  rw [← ix2_eq_valueIdx n]
  pointwise
  simp only [ix2_eq_valueIdx, ix1_eq_valueIdx]
  rfl

/-- The score of item `n` is a real number where the weights are. -/
theorem scores_at (hw : (refArgs V0).Finite) (n : Fin 320000) :
    refScore V0 n = ((refArgs V0).itemScore n : EReal) := by
  rw [scores_sum, Args.itemScore, ← sum_logistic]
  exact Finset.sum_congr rfl fun h _ => by rw [hw h]

end Cert.Readout

end
-- ==== Proof.Segments.lean ====
/-
  The segment ids of the reference, where every count is 32. The reference expands the counts by a running sum of the
  shifted counts (the start of each segment: `32 i`), a scatter of ones at the starts, a running sum of those (one more
  than the segment that a position lies in), and a lookup in the table `0, 1, …, 9999`: the id of item `n` is `n / 32`.
-/
module

public import proofs.«01_k».proof.Proof.Gen.ReferenceIdeal.Run
public import proofs.«01_k».proof.Proof.Scatter
public import Idealize.ShloMosaic.Lib.Pointwise.SelectCore
public import Idealize.ShloMosaic.Lib.ReduceAll

@[expose] public section

set_option maxRecDepth 16384

noncomputable section

namespace Cert.Readout

open Idealize.ShloMosaic hiding ix1 ix2 eq_ix2
open Idealize.ShloMosaic.Routing Idealize.ShloMosaic.ValueIdx Idealize.ShloMosaic.StableHlo
open Cert.ReferenceIdeal Cert.ReferenceIdeal.Gen Cert.ReferenceIdeal.Value

variable {F : FTy → Type} [FloatOps F]

/-! ## The sums of the two running sums -/

/-- The sum of the shifted counts up to segment `j` — zero, then 32 for each later segment — is `32 j`. -/
theorem sum_starts (j : Nat) : ((List.range (j + 1)).map fun i => if i = 0 then 0 else 32).sum = 32 * j := by
  induction j with
  | zero => rfl
  | succ j ih =>
    rw [List.range_succ, List.map_append, List.sum_append, ih, List.map_singleton, List.sum_singleton, if_neg (by omega)]
    omega

/-- The number of multiples of 32 from 0 to `j` is `j / 32 + 1`. -/
theorem sum_marks (j : Nat) : ((List.range (j + 1)).map fun i => if i % 32 = 0 then 1 else 0).sum = j / 32 + 1 := by
  induction j with
  | zero => rfl
  | succ j ih =>
    rw [List.range_succ, List.map_append, List.sum_append, ih, List.map_singleton, List.sum_singleton]
    split <;> omega

/-- The wrap of an index, which adds the extent to a negative word, leaves a word below `2 ^ 31` as it is. -/
theorem wrap_ofNat (a : BitVec 32) {k : Nat} (hk : k < 2 ^ 31) :
    Scalar.select (IntOp.cmpi .slt (BitVec.ofNat 32 k) 0#32) a (BitVec.ofNat 32 k) = BitVec.ofNat 32 k :=
  wrap_of_lt _ _ (by rw [BitVec.toNat_ofNat, Nat.mod_eq_of_lt (by omega)]; exact hk)

/-! ## The expansion -/

variable (V0 : Valuation τ sig (Elt F))

/-- The running sum of the shifted counts: segment `i` starts at item `32 i`. -/
theorem starts_at (hc : ∀ i : S10000.Idx, V0 (Proc.devRef .tc main_arg2) i = 32#32) (i : Fin 10000) :
    res_main_v4 V0 (ix1 i) = BitVec.ofNat 32 (32 * i.val) := by
  unfold res_main_v4
  refine (cumsum1 (N := 10000) (Nm1 := 9999) rfl _ (fun i => if i = 0 then 0 else 32) (fun i => ?_) _ rfl _ _ i).trans
    (congrArg _ (sum_starts i.val))
  refine (scatter_one scatter_S10000_S1_S__n_0_0_0 rfl rfl _ _ _ (0 : Fin 10000) (by decide) rfl i).trans ?_
  by_cases h : i = 0
  · subst h; rfl
  · rw [if_neg h, if_neg (fun e : i.val = 0 => h (Fin.ext e))]
    refine concatenate_forall (P := fun w => w = 32#32) _ _ _ _ (fun p hp j => ?_) _
    simp only [List.mem_cons, List.not_mem_nil, or_false] at hp
    rcases hp with rfl | rfl
    · exact hc _
    · exact hc _

/-- The running sum of the marks less one: position `n` lies in segment `n / 32`. -/
theorem places_at (hc : ∀ i : S10000.Idx, V0 (Proc.devRef .tc main_arg2) i = 32#32) (n : Fin 320000) :
    res_main_v16 V0 (ix1 n) = BitVec.ofNat 32 (n.val / 32) := by
  unfold res_main_v16
  rw [subi_apply, cumsum1 (N := 320000) (Nm1 := 319999) rfl _ (fun i => if i % 32 = 0 then 1 else 0) (fun x => ?_) _ rfl _ _ n, sum_marks]
  · show BitVec.ofNat 32 (n.val / 32 + 1) - 1#32 = _
    rw [StableHlo.Predicate.sub_one_ofNat _ (by omega) (by omega)]
    rfl
  · refine hist_at _ (fun _ => rfl) _ (fun _ => rfl) _ (fun i => ?_) x
    refine (bcCol _ _ i).trans ?_
    show Scalar.select (IntOp.cmpi .slt (res_main_v4 V0 (ix1 i)) 0#32) _ (res_main_v4 V0 (ix1 i)) = _
    rw [starts_at V0 hc i, wrap_ofNat _ (by omega)]

/-- The lookup's index words: the place of item `n`, which the wrap leaves as it is. -/
theorem lookup_at (hc : ∀ i : S10000.Idx, V0 (Proc.devRef .tc main_arg2) i = 32#32) (n : Fin 320000) :
    res_main_call3_v5 V0 (ix2 n (0 : Fin 1)) = BitVec.ofNat 32 (n.val / 32) := by
  unfold res_main_call3_v5
  refine (bcCol _ _ n).trans ?_
  show Scalar.select (IntOp.cmpi .slt (res_main_v16 V0 (ix1 n)) 0#32) _ (res_main_v16 V0 (ix1 n)) = _
  rw [places_at V0 hc n, wrap_ofNat _ (by omega)]

/-- The segment id of item `n` is `n / 32`. -/
theorem ids_at (hc : ∀ i : S10000.Idx, V0 (Proc.devRef .tc main_arg2) i = 32#32) (n : Fin 320000) :
    res_main_v17 V0 (ix1 n) = BitVec.ofNat 32 (n.val / 32) := by
  have hn : n.val / 32 < 10000 := by omega
  unfold res_main_v17
  show Scalar.select (Host.reduce IntOp.andi _ _ _ _ (ix1 n)) (Host.gather _ _ _ (ix1 n)) _ = _
  rw [take_ap gather_S10000_S320000x1_S320000_n_0_n_n_0_1_1 rfl rfl rfl rfl _ _ n hn (by omega) (lookup_at V0 hc n)]
  rw [Host.reduce_andi_one _ _ _ _ _ rfl fun i => ?_]
  · rfl
  · obtain ⟨n', z, rfl⟩ : ∃ (n' : Fin 320000) (z : Fin 1), i = ix2 n' z := ⟨i 0, i 1, eq_ix2 i⟩
    obtain rfl : z = 0 := Subsingleton.elim _ _
    show IntOp.andi (IntOp.cmpi .sge (res_main_call3_v5 V0 (ix2 n' (0 : Fin 1))) 0#32)
      (IntOp.cmpi .sle (res_main_call3_v5 V0 (ix2 n' (0 : Fin 1))) 9999#32) = 1#1
    have hlt : (BitVec.ofNat 32 (n'.val / 32)).toNat = n'.val / 32 := by rw [BitVec.toNat_ofNat, Nat.mod_eq_of_lt (by omega)]
    rw [lookup_at V0 hc n', IntOp.andi_eq_one, StableHlo.Predicate.sge_iff_toNat (by omega) (by decide),
      StableHlo.Predicate.sle_iff_toNat (by omega) (by decide), hlt]
    exact ⟨Nat.zero_le _, by show n'.val / 32 ≤ 9999; omega⟩

end Cert.Readout

end
-- ==== Proof.RefValue.lean ====
/-
  The reference's result at an index, where every count is 32 and the score's weights are real: the masked maximum of a
  segment's scores is some real number, which cancels from the softmax, and the two summing scatters add the 32 items
  of a segment.
-/
module

public import proofs.«01_k».proof.Proof.RefScore
public import proofs.«01_k».proof.Proof.Segments

@[expose] public section

set_option maxRecDepth 16384

noncomputable section

namespace Cert.Readout

open Idealize.ShloMosaic hiding ix1 ix2 eq_ix1 eq_ix2
open Idealize.ShloMosaic.Routing Idealize.ShloMosaic.ValueIdx Idealize.ShloMosaic.StableHlo
open Cert.ReferenceIdeal Cert.ReferenceIdeal.Gen Cert.ReferenceIdeal.Value

/-- Over the scores laid along segments, minus infinity where an item is not of the segment, the largest entry of a
    segment's row is a real number: the row holds real numbers and `⊥` only, and item 0's is real. -/
theorem masked_max_real (x : S10000x320000.Idx → EReal) (s : Fin 320000 → ℝ)
    (hx : ∀ (b : Fin 10000) (n : Fin 320000), x (ix2 b n) = if seg n = b then (s n : EReal) else ⊥)
    (init : S_.Idx → EReal) (hi : ∀ i, init i = ⊥) (b : Fin 10000) :
    ∃ M : ℝ, Host.reduce max x init reducesTo_S10000x320000_S10000_d1 h_S_ (ix1 b) = (M : EReal) := by
  rw [Host.reduce_eq_fold, hi]
  refine fold_max_real _ x (fun i _ => ?_) (ix2 b (item b 0)) (Finset.mem_filter.2 ⟨Finset.mem_univ _, ?_⟩) ?_
  · obtain ⟨b', n, rfl⟩ : ∃ (b' : Fin 10000) (n : Fin 320000), i = ix2 b' n := ⟨i 0, i 1, eq_ix2 i⟩
    rw [hx]
    split
    · exact EReal.coe_ne_top _
    · exact bot_ne_top
  · refine (eq_ix1 _).trans (congrArg ix1 rfl)
  · rw [hx, if_pos (seg_item b 0)]
    exact EReal.coe_ne_bot _

/-- A segment id equals the word of segment `b` exactly when the item is one of segment `b`. -/
theorem id_eq_iff (n : Fin 320000) (b : Fin 10000) :
    IntOp.cmpi .eq (BitVec.ofNat 32 (n.val / 32)) (BitVec.ofNat 32 b.val) = 1#1 ↔ seg n = b := by
  have hn := n.isLt
  have hb := b.isLt
  rw [StableHlo.Predicate.cmpi_eq_iff, Fin.ext_iff]
  show _ ↔ n.val / 32 = b.val
  refine ⟨fun h => ?_, fun h => by rw [h]⟩
  have := congrArg BitVec.toNat h
  rw [BitVec.toNat_ofNat, BitVec.toNat_ofNat, Nat.mod_eq_of_lt (by omega), Nat.mod_eq_of_lt (by omega)] at this
  exact this

variable (V0 : Valuation τ sig (Elt Ideal))

/-- The ids, wrapped for an indexed read and laid in a column, are the segments of the items. -/
theorem wrapped_at (hc : ∀ i : S10000.Idx, V0 (Proc.devRef .tc main_arg2) i = 32#32) (n : Fin 320000) :
    broadcastInDim S320000x1 ![0] bcast_S320000_S320000x1_0 (select (cmpi .slt (res_main_v17 V0)
        (broadcastInDim S320000 ![] bcast_S_S320000 (constantI S_ 32 0#32)))
        (addi (res_main_v17 V0) (broadcastInDim S320000 ![] bcast_S_S320000 (constantI S_ 32 10000#32))) (res_main_v17 V0))
      (ix2 n (0 : Fin 1)) = BitVec.ofNat 32 (n.val / 32) := by
  refine (bcCol _ _ n).trans ?_
  show Scalar.select (IntOp.cmpi .slt (res_main_v17 V0 (ix1 n)) 0#32) _ (res_main_v17 V0 (ix1 n)) = _
  rw [ids_at V0 hc n, wrap_ofNat _ (by omega)]

/-- The ids laid in a column. -/
theorem column_at (hc : ∀ i : S10000.Idx, V0 (Proc.devRef .tc main_arg2) i = 32#32) (n : Fin 320000) :
    broadcastInDim S320000x1 ![0] bcast_S320000_S320000x1_0 (res_main_v17 V0) (ix2 n (0 : Fin 1)) = BitVec.ofNat 32 (n.val / 32) :=
  (bcCol _ _ n).trans (ids_at V0 hc n)

/-- The scores laid along every segment, minus infinity where the item is not of the segment. -/
def masked : S10000x320000.Idx → EReal :=
  select (cmpi .eq (broadcastInDim S10000x320000 ![0, 1] bcast_S1x320000_S10000x320000_0_1
        (broadcastInDim S1x320000 ![1] bcast_S320000_S1x320000_1 (res_main_v17 V0)))
      (broadcastInDim S10000x320000 ![0, 1] bcast_S10000x1_S10000x320000_0_1
        (broadcastInDim S10000x1 ![0] bcast_S10000_S10000x1_0 (iotaInDim S10000 32 0))))
    (broadcastInDim S10000x320000 ![0, 1] bcast_S1x320000_S10000x320000_0_1
      (transpose S1x320000 [1, 0] (res_main_v33 V0) transposes_S320000x1_S1x320000_1_0))
    (broadcastInDim S10000x320000 ![] bcast_S_S10000x320000 (id (constant (F := Ideal) S_ .f32 0xFF800000#32)))

/-- An entry of the masked scores. -/
theorem masked_at (hc : ∀ i : S10000.Idx, V0 (Proc.devRef .tc main_arg2) i = 32#32) (hw : (refArgs V0).Finite)
    (b : Fin 10000) (n : Fin 320000) :
    masked V0 (ix2 b n) = if seg n = b then ((refArgs V0).itemScore n : EReal) else ⊥ := by
  have e : masked V0 (ix2 b n)
      = Scalar.select (IntOp.cmpi .eq (res_main_v17 V0 (ix1 n)) (BitVec.ofNat 32 b.val)) (refScore V0 n) ⊥ := by
    unfold masked refScore
    rw [← ix2_eq_valueIdx b, ← neg_inf_f32]
    pointwise
    simp only [ix2_eq_valueIdx, ix1_eq_valueIdx]
    rfl
  rw [e, ids_at V0 hc n, scores_at V0 hw n]
  by_cases h : seg n = b
  · rw [if_pos h, (id_eq_iff n b).2 h]
    rfl
  · rw [if_neg h]
    exact if_neg fun h' => h ((id_eq_iff n b).1 h')

/-- The reference's exponential of item `n`. -/
def refExp (n : Fin 320000) : EReal := res_main_v52 V0 (ix2 n (0 : Fin 1))

/-- The exponentials are of the scores less a real number that the items of a segment share. -/
theorem refExp_eq (hc : ∀ i : S10000.Idx, V0 (Proc.devRef .tc main_arg2) i = 32#32) (hw : (refArgs V0).Finite) :
    ∃ M : Fin 10000 → ℝ, ∀ n, refExp V0 n = Ideal.exp (((refArgs V0).itemScore n : EReal) - (M (seg n) : EReal)) := by
  choose M hM using masked_max_real (masked V0) (refArgs V0).itemScore (masked_at V0 hc hw)
    (constant (F := Ideal) S_ .f32 0xFF800000#32) (fun _ => neg_inf_f32)
  refine ⟨M, fun n => ?_⟩
  unfold refExp res_main_v52
  show Ideal.exp (refScore V0 n - Host.gather _ _ _ (ix2 n (0 : Fin 1))) = _
  rw [gather_row gather_S10000x1_S320000x1_S320000x1_1_0_n_n_0_1_11 rfl rfl rfl rfl rfl _ _ n 0 (seg n) (wrapped_at V0 hc n) (by omega),
    scores_at V0 hw n]
  exact congrArg (fun x : EReal => Ideal.exp (((refArgs V0).itemScore n : EReal) - x)) ((bcCol _ _ _).trans (hM (seg n)))

/-- The weight of item `n` in the reference: its exponential over the sum of its segment's. -/
theorem refWeight_at (hc : ∀ i : S10000.Idx, V0 (Proc.devRef .tc main_arg2) i = 32#32) (hw : (refArgs V0).Finite)
    (b : Fin 10000) (k : Fin 32) :
    Ideal.div (refExp V0 (item b k)) (∑ k' : Fin 32, refExp V0 (item b k'))
      = (weight (fun k' => (refArgs V0).itemScore (item b k')) k : EReal) := by
  obtain ⟨M, hM⟩ := refExp_eq V0 hc hw
  simp only [hM, seg_item]
  exact div_exp_eq_weight (fun k' => (refArgs V0).itemScore (item b k')) (M b) k

/-- The sums of the exponentials, read back at item `n`: the sum over the items of its segment. -/
theorem den_at (x : S10000x1.Idx → EReal) (hx : ∀ b : Fin 10000, x (ix2 b (0 : Fin 1)) = 0) (e : S320000x1.Idx → EReal)
    (ids idx : IVec S320000x1 32) (hids : ∀ n : Fin 320000, ids (ix2 n (0 : Fin 1)) = BitVec.ofNat 32 (n.val / 32))
    (hidx : ∀ n : Fin 320000, idx (ix2 n (0 : Fin 1)) = BitVec.ofNat 32 (n.val / 32)) (n : Fin 320000) :
    Host.gather gather_S10000x1_S320000x1_S320000x1_1_0_n_n_0_1_11
        (Ideal.hostScatterAdd scatter_S10000x1_S320000x1_S320000x1_1_0_0_1 x ids e) idx (ix2 n (0 : Fin 1))
      = ∑ k : Fin 32, e (ix2 (item (seg n) k) (0 : Fin 1)) := by
  rw [gather_row gather_S10000x1_S320000x1_S320000x1_1_0_n_n_0_1_11 rfl rfl rfl rfl rfl _ _ n 0 (seg n) (hidx n) (by omega),
    col_at x ids hids e, hx, zero_add]

/-- A splat of zero is zero everywhere. -/
theorem zeros_apply {t : Shape} (h : S_.BroadcastsInDim t (![] : Fin 0 → Fin t.rank)) (i : t.Idx) :
    broadcastInDim t ![] h (constant (F := Ideal) S_ .f32 0x00000000#32) i = 0 := by
  rw [← Ideal.ofBits_zero_f32]
  rfl

/-- The host's division, at an index. -/
theorem hostDivf_at {t : Shape} (x y : FVec Ideal t .f32) (i : t.Idx) : Host.divf x y i = Ideal.div (x i) (y i) := rfl

/-- The host's summing scatter is the scatter of extended reals. -/
theorem scatterAdd_eq {t ti u : Shape} (d : ScatterDims t ti u) (x : FVec Ideal t .f32) (idx : IVec ti 32) (upd : FVec Ideal u .f32) :
    Host.scatterAdd d x idx upd = Ideal.hostScatterAdd d x idx upd := rfl

/-- The softmax weights that the reference computes. -/
def refAlpha : S320000x1.Idx → EReal :=
  Host.divf (F := Ideal) (φ := .f32) (res_main_v52 V0) (Host.gather gather_S10000x1_S320000x1_S320000x1_1_0_n_n_0_1_11
    (Host.scatterAdd (F := Ideal) scatter_S10000x1_S320000x1_S320000x1_1_0_0_1
      (broadcastInDim S10000x1 ![] bcast_S_S10000x1 (constant S_ .f32 0x00000000#32))
      (broadcastInDim S320000x1 ![0] bcast_S320000_S320000x1_0 (res_main_v17 V0)) (res_main_v52 V0))
    (broadcastInDim S320000x1 ![0] bcast_S320000_S320000x1_0 (select (cmpi .slt (res_main_v17 V0)
      (broadcastInDim S320000 ![] bcast_S_S320000 (constantI S_ 32 0#32)))
      (addi (res_main_v17 V0) (broadcastInDim S320000 ![] bcast_S_S320000 (constantI S_ 32 10000#32))) (res_main_v17 V0))))

/-- The weight of item `k` of segment `b` is its softmax weight. -/
theorem refAlpha_at (hc : ∀ i : S10000.Idx, V0 (Proc.devRef .tc main_arg2) i = 32#32) (hw : (refArgs V0).Finite)
    (b : Fin 10000) (k : Fin 32) :
    refAlpha V0 (ix2 (item b k) (0 : Fin 1)) = (weight (fun k' => (refArgs V0).itemScore (item b k')) k : EReal) := by
  unfold refAlpha
  rw [hostDivf_at, scatterAdd_eq, den_at _ (fun _ => zeros_apply _ _) _ _ _ (column_at V0 hc) (wrapped_at V0 hc), seg_item]
  exact refWeight_at V0 hc hw b k

/-- The readout that the reference computes. -/
def refReadout : S10000x128.Idx → EReal :=
  Host.scatterAdd (F := Ideal) (φ := .f32) scatter_S10000x128_S320000x1_S320000x128_1_0_0_1
    (broadcastInDim S10000x128 ![] bcast_S_S10000x128 (constant S_ .f32 0x00000000#32))
    (broadcastInDim S320000x1 ![0] bcast_S320000_S320000x1_0 (res_main_v17 V0))
    (mulf (refArgs V0).feats (broadcastInDim S320000x128 ![0, 1] bcast_S320000x1_S320000x128_0_1 (refAlpha V0)))

/-- Rows times a column of weights, summed over the items of a segment. -/
theorem weighted_rows_at (x : S10000x128.Idx → EReal) (hx : ∀ i, x i = 0) (ids : IVec S320000x1 32)
    (hids : ∀ n : Fin 320000, ids (ix2 n (0 : Fin 1)) = BitVec.ofNat 32 (n.val / 32)) (f : S320000x128.Idx → EReal)
    (a : S320000x1.Idx → EReal) (b : Fin 10000) (d : Fin 128) :
    Ideal.hostScatterAdd scatter_S10000x128_S320000x1_S320000x128_1_0_0_1 x ids
        (mulf (F := Ideal) (φ := .f32) f (broadcastInDim S320000x128 ![0, 1] bcast_S320000x1_S320000x128_0_1 a)) (ix2 b d)
      = ∑ k : Fin 32, f (ix2 (item b k) d) * a (ix2 (item b k) (0 : Fin 1)) := by
  rw [rows_at x ids hids, hx, zero_add]
  refine Finset.sum_congr rfl fun k _ => ?_
  rw [← ix2_eq_valueIdx]
  pointwise
  simp only [ix2_eq_valueIdx]

/-- The readout of segment `b` is the sum of the features of its items times their softmax weights. -/
theorem refReadout_at (hc : ∀ i : S10000.Idx, V0 (Proc.devRef .tc main_arg2) i = 32#32) (hw : (refArgs V0).Finite)
    (b : Fin 10000) (d : Fin 128) : refReadout V0 (ix2 b d) = (refArgs V0).readout b d := by
  unfold refReadout Args.readout
  rw [scatterAdd_eq, weighted_rows_at _ (zeros_apply _) _ (column_at V0 hc)]
  simp only [refAlpha_at V0 hc hw]

/-- The output product at an index: a row of the readout against a row of the output matrix. -/
theorem refOut_at (r : S10000x128.Idx → EReal) (w : S128x128.Idx → EReal) (b : Fin 10000) (o : Fin 128) :
    Host.dotGeneral (F := Ideal) (φ₁ := .f32) (φ₂ := .f32) dot_S10000x128_S128x128_S10000x128_1_0_0_1_n_n none r
        (transpose S128x128 [1, 0] w transposes_S128x128_S128x128_1_0) (ix2 b o)
      = ∑ d : Fin 128, r (ix2 b d) * w (ix2 o d) := by
  rw [← ix2_eq_valueIdx b o]
  pointwise
  simp only [ix2_eq_valueIdx]

/-- The reference's result at an index. -/
theorem refResult_at (hc : ∀ i : S10000.Idx, V0 (Proc.devRef .tc main_arg2) i = 32#32) (hw : (refArgs V0).Finite)
    (b : Fin 10000) (o : Fin 128) :
    Host.dotGeneral (F := Ideal) (φ₁ := .f32) (φ₂ := .f32) dot_S10000x128_S128x128_S10000x128_1_0_0_1_n_n none (refReadout V0)
        (transpose S128x128 [1, 0] (refArgs V0).wout transposes_S128x128_S128x128_1_0) (ix2 b o)
      = (refArgs V0).result b o := by
  rw [refOut_at, Args.result]
  simp only [refReadout_at V0 hc hw]

end Cert.Readout

end
-- ==== Proof.HostValue.lean ====
/-
  The arrays that the kernel's region finds: the halved transposed matrices one above the other, the halved bias, the
  score's weights as a column repeated over the output columns, and the transposed output matrix.
-/
module

public import proofs.«01_k».proof.Proof.Gen.KernelIdeal.Frame
public import proofs.«01_k».proof.Proof.Model
public import proofs.«01_k».proof.Proof.Consts
public import Idealize.ShloMosaic.Lib.Pointwise

@[expose] public section

set_option maxRecDepth 16384

noncomputable section

namespace Cert.Readout

open Idealize.ShloMosaic hiding ix1 ix2 eq_ix1 eq_ix2
open Idealize.ShloMosaic.ValueIdx Idealize.ShloMosaic.TcCoe Idealize.ShloMosaic.StableHlo
open Cert.KernelIdeal Cert.KernelIdeal.Gen

variable (m : (ℓ : Loc nD τ sig) → Buf (Elt Ideal) ℓ) (c : Dev nD)

/-- The float arguments of the kernel on device `c`. -/
def kerArgs : Args where
  feats := m ((c : Thread nD τ).loc main_arg0)
  ctx := m ((c : Thread nD τ).loc main_arg1)
  wu := m ((c : Thread nD τ).loc main_arg3)
  bu := m ((c : Thread nD τ).loc main_arg4)
  wv := m ((c : Thread nD τ).loc main_arg5)
  we := m ((c : Thread nD τ).loc main_arg6)
  wout := m ((c : Thread nD τ).loc main_arg7)

/-- The stacked matrices: the transposed `U` above the transposed `V`, halved. -/
theorem stacked_eq : V m c main_call0_v4
    = mulf (F := Ideal) (φ := .f32) (concatenate S256x128 0 [⟨S128x128, transpose S128x128 [1, 0] (kerArgs m c).wu transposes_S128x128_S128x128_1_0⟩,
        ⟨S128x128, transpose S128x128 [1, 0] (kerArgs m c).wv transposes_S128x128_S128x128_1_0⟩] concatenates_S128x128_S128x128_S256x128_d0)
      (broadcastInDim S256x128 ![] bcast_S_S256x128 (constant (F := Ideal) S_ .f32 0x3F000000#32)) := by
  unfold V kerArgs
  after_results
  rfl

/-- A row of the upper half. -/
theorem stacked_u (k h : Fin 128) :
    V m c main_call0_v4 (ix2 (⟨k.val, by omega⟩ : Fin 256) h) = (kerArgs m c).wu (ix2 h k) * ((1 / 2 : ℝ) : EReal) := by
  rw [stacked_eq, ← ix2_eq_valueIdx, ← half_f32]
  pointwise
  simp only [ix2_eq_valueIdx, ix1_eq_valueIdx]

/-- A row of the lower half. -/
theorem stacked_v (k h : Fin 128) :
    V m c main_call0_v4 (ix2 (⟨128 + k.val, by omega⟩ : Fin 256) h) = (kerArgs m c).wv (ix2 h k) * ((1 / 2 : ℝ) : EReal) := by
  rw [stacked_eq, ← ix2_eq_valueIdx, ← half_f32]
  pointwise
  simp only [ix2_eq_valueIdx, ix1_eq_valueIdx]

/-- The bias row, halved. -/
theorem bias_at (h : Fin 128) :
    V m c main_call0_v7 (ix2 (0 : Fin 1) h) = (kerArgs m c).bu (ix1 h) * ((1 / 2 : ℝ) : EReal) := by
  have e : V m c main_call0_v7 = mulf (F := Ideal) (φ := .f32) (shapeCast S1x128 (kerArgs m c).bu shapeCasts_S128_S1x128)
      (broadcastInDim S1x128 ![] bcast_S_S1x128 (constant (F := Ideal) S_ .f32 0x3F000000#32)) := by
    unfold V kerArgs
    after_results
    rfl
  rw [e, ← ix2_eq_valueIdx, ← half_f32]
  pointwise
  simp only [ix2_eq_valueIdx, ix1_eq_valueIdx]

/-- The score's weights, the same in every output column. -/
theorem weights_at (h o : Fin 128) : V m c main_call0_v9 (ix2 h o) = (kerArgs m c).we (ix2 (0 : Fin 1) h) := by
  have e : V m c main_call0_v9 = broadcastInDim S128x128 ![0, 1] bcast_S128x1_S128x128_0_1
      (shapeCast S128x1 (kerArgs m c).we shapeCasts_S1x128_S128x1) := by
    unfold V kerArgs
    after_results
    rfl
  rw [e, ← ix2_eq_valueIdx]
  pointwise
  simp only [ix2_eq_valueIdx, ix1_eq_valueIdx]

/-- The transposed output matrix. -/
theorem wout_at (d o : Fin 128) : V m c main_call0_v10 (ix2 d o) = (kerArgs m c).wout (ix2 o d) := by
  have e : V m c main_call0_v10 = transpose S128x128 [1, 0] (kerArgs m c).wout transposes_S128x128_S128x128_1_0 := by
    unfold V kerArgs
    after_results
    rfl
  rw [e, ← ix2_eq_valueIdx]
  pointwise
  simp only [ix2_eq_valueIdx, ix1_eq_valueIdx]

end Cert.Readout

end
-- ==== Proof.Block.lean ====
/-
  One block of the kernel: from the blocks of features and contexts of 400 segments and the prepared weights, the block
  of results of those segments.
-/
module

public import proofs.«01_k».proof.Proof.Gen.KernelIdeal.Skeleton
public import proofs.«01_k».proof.Proof.Model
public import proofs.«01_k».proof.Proof.Consts
public import Idealize.ShloMosaic.Lib.Pointwise

@[expose] public section

set_option maxRecDepth 16384

noncomputable section

namespace Cert.Readout

open Idealize.ShloMosaic hiding ix1 ix2 eq_ix1 eq_ix2
open Idealize.ShloMosaic.ValueIdx
open Cert.KernelIdeal Cert.KernelIdeal.Gen

/-- The scale of the score's weights, by name, is `1 / (2 log 2)`. -/
theorem scale_named :
    Named.named (F := Ideal) Cert.KernelIdeal.κ "half_log2_e" (φ := .f32) 0x3F38AA3B#32 = (((2 * Real.log 2)⁻¹ : ℝ) : EReal) :=
  IdealRules.named_const.ideal_named_scalar _ _ _ _ rfl

/-- Half the weights and half the bias give half the pre-activation. -/
theorem preact_half (A : Args) (n : Fin 320000) (h : Fin 128) :
    (∑ k : Fin 128, A.feats (ix2 n k) * (A.wu (ix2 h k) * ((1 / 2 : ℝ) : EReal))
        + ∑ k : Fin 128, A.ctx (ix2 n k) * (A.wv (ix2 h k) * ((1 / 2 : ℝ) : EReal))) + A.bu (ix1 h) * ((1 / 2 : ℝ) : EReal)
      = A.preact n h * ((1 / 2 : ℝ) : EReal) := by
  have hc : (0 : ℝ) ≤ 1 / 2 := by norm_num
  rw [sum_mul_half _ _ hc, sum_mul_half _ _ hc, Args.preact,
    EReal.right_distrib_of_nonneg_of_ne_top (EReal.coe_nonneg.2 hc) (EReal.coe_ne_top _),
    EReal.right_distrib_of_nonneg_of_ne_top (EReal.coe_nonneg.2 hc) (EReal.coe_ne_top _), add_right_comm]

/-- The kernel's exponential of item `n`, whatever the output column: of the score less half the sum of the weights. -/
theorem exp2_item (A : Args) (hw : A.Finite) (n : Fin 320000) :
    Ideal.exp2 (∑ h : Fin 128,
        Ideal.tanh ((∑ k : Fin 128, A.feats (ix2 n k) * (A.wu (ix2 h k) * ((1 / 2 : ℝ) : EReal))
          + ∑ k : Fin 128, A.ctx (ix2 n k) * (A.wv (ix2 h k) * ((1 / 2 : ℝ) : EReal))) + A.bu (ix1 h) * ((1 / 2 : ℝ) : EReal))
        * (A.we (ix2 (0 : Fin 1) h) * (((2 * Real.log 2)⁻¹ : ℝ) : EReal)))
      = (Real.exp (A.itemScore n - (∑ h, A.weightE h) / 2) : EReal) := by
  simp only [preact_half, hw _]
  exact exp2_sum_tanh (A.preact n) A.weightE

/-- What the windows of block `t` hold, of the arguments: 12800 rows of features and of contexts, the halved
    transposed matrices one above the other, the halved bias, the score's weights as a column repeated over the output
    columns, and the transposed output matrix. -/
structure BlockOf (A : Args) (t : Fin 25) (v0 v1 : S12800x128.Idx → EReal) (v3 : S256x128.Idx → EReal)
    (v6 : S1x128.Idx → EReal) (v11 v25 : S128x128.Idx → EReal) : Prop where
  feats : ∀ (p : Fin 12800) (k : Fin 128), v0 (ix2 p k) = A.feats (ix2 (⟨12800 * t.val + p.val, by omega⟩ : Fin 320000) k)
  ctx : ∀ (p : Fin 12800) (k : Fin 128), v1 (ix2 p k) = A.ctx (ix2 (⟨12800 * t.val + p.val, by omega⟩ : Fin 320000) k)
  wu : ∀ (k h : Fin 128), v3 (ix2 (⟨k.val, by omega⟩ : Fin 256) h) = A.wu (ix2 h k) * ((1 / 2 : ℝ) : EReal)
  wv : ∀ (k h : Fin 128), v3 (ix2 (⟨128 + k.val, by omega⟩ : Fin 256) h) = A.wv (ix2 h k) * ((1 / 2 : ℝ) : EReal)
  bu : ∀ h : Fin 128, v6 (ix2 (0 : Fin 1) h) = A.bu (ix1 h) * ((1 / 2 : ℝ) : EReal)
  we : ∀ h o : Fin 128, v11 (ix2 h o) = A.we (ix2 (0 : Fin 1) h)
  wout : ∀ d o : Fin 128, v25 (ix2 d o) = A.wout (ix2 o d)

/-- The rows of block `t` that segment `r` of the block reads are the items of segment `400 t + r`. -/
theorem row_item (t : Fin 25) (r : Fin 400) (k : Fin 32) (h : 12800 * t.val + (r.val * 32 + k.val) < 320000) :
    (⟨12800 * t.val + (r.val * 32 + k.val), h⟩ : Fin 320000) = item ⟨400 * t.val + r.val, by omega⟩ k :=
  Fin.ext (show 12800 * t.val + (r.val * 32 + k.val) = 32 * (400 * t.val + r.val) + k.val by omega)

/-- The block of results at an index is the result of segment `400 t + r`. -/
theorem block_at (A : Args) (hw : A.Finite) (t : Fin 25) (v0 v1 : Vec Ideal S12800x128 .f32) (v3 : Vec Ideal S256x128 .f32)
    (v6 : Vec Ideal S1x128 .f32) (v11 v25 : Vec Ideal S128x128 .f32) (B : BlockOf A t v0 v1 v3 v6 v11 v25)
    (r : Fin 400) (o : Fin 128) :
    k0_pay1 v0 v1 v3 v6 v11 v25 (ix2 r o) = A.result ⟨400 * t.val + r.val, by omega⟩ o := by
  unfold k0_pay1 Args.result Args.readout
  rw [← ix2_eq_valueIdx]
  pointwise
  simp only [ix2_eq_valueIdx, scale_named, B.feats, B.ctx, B.wu, B.wv, B.bu, B.we, B.wout, row_item]
  refine Finset.sum_congr rfl fun d _ => congrArg (· * _) ?_
  refine Eq.trans ?_ (num_mul_inv_den (fun k => A.itemScore (item ⟨400 * t.val + r.val, by omega⟩ k)) ((∑ h, A.weightE h) / 2)
    fun k => A.feats (ix2 (item ⟨400 * t.val + r.val, by omega⟩ k) d))
  simp only [← exp2_item A hw]
  rfl

end Cert.Readout

end
-- ==== Proof.KernelValue.lean ====
/-
  The kernel's result array. The 25 blocks of 400 rows tile it, and block `t` is computed from rows 12800 t … of the
  features and of the contexts and from the prepared weights, so that row `b` is the result of segment `b`.
-/
module

public import proofs.«01_k».proof.Proof.Gen.KernelIdeal.Value
public import proofs.«01_k».proof.Proof.HostValue
public import proofs.«01_k».proof.Proof.Block

@[expose] public section

set_option maxRecDepth 16384

noncomputable section

namespace Cert.Readout

open Idealize.ShloMosaic hiding ix1 ix2 eq_ix1 eq_ix2
open Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## Where the blocks lie -/

/-- The windows' block indices: features, contexts and results move with the grid point, the rest stay. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- A grid point is one of 25. -/
theorem point_lt (t : Fin cfg0.N) : t.val < 25 := N_0 ▸ t.isLt

/-- A row of a block of features or contexts is a row of the array. -/
theorem row_lt (t : Fin cfg0.N) (p : Fin 12800) : 12800 * t.val + p.val < 320000 := by
  have := point_lt t
  omega

/-- Block `t` of the features. -/
theorem feats_blk (t : Fin cfg0.N) (p : Fin 12800) (k : Fin 128) :
    iblk m c 0 t (ix2 p k) = (kerArgs m c).feats (ix2 (⟨12800 * t.val + p.val, row_lt t p⟩ : Fin 320000) k) := by
  show V m c main_arg0 (((cfg0.win 0).blk t).view.emb (ix2 p k)) = _
  rw [V_main_arg0]
  refine congrArg (m ((c : Thread nD τ).loc main_arg0)) (funext fun a => Fin.ext ?_)
  obtain ⟨⟨e0, e1⟩, _⟩ := idx_facts t
  match a with
  | ⟨0, _⟩ => show win0_0.index t (0 : Fin 2) * 12800 + 1 * p.val = 12800 * t.val + p.val; omega
  | ⟨1, _⟩ => show win0_0.index t (1 : Fin 2) * 128 + 1 * k.val = k.val; omega

/-- Block `t` of the contexts. -/
theorem ctx_blk (t : Fin cfg0.N) (p : Fin 12800) (k : Fin 128) :
    iblk m c 1 t (ix2 p k) = (kerArgs m c).ctx (ix2 (⟨12800 * t.val + p.val, row_lt t p⟩ : Fin 320000) k) := by
  show V m c main_arg1 (((cfg0.win 1).blk t).view.emb (ix2 p k)) = _
  rw [V_main_arg1]
  refine congrArg (m ((c : Thread nD τ).loc main_arg1)) (funext fun a => Fin.ext ?_)
  obtain ⟨_, ⟨e0, e1⟩, _⟩ := idx_facts t
  match a with
  | ⟨0, _⟩ => show win0_1.index t (0 : Fin 2) * 12800 + 1 * p.val = 12800 * t.val + p.val; omega
  | ⟨1, _⟩ => show win0_1.index t (1 : Fin 2) * 128 + 1 * k.val = k.val; omega

/-- The windows of the stacked matrices, of the bias, of the score's weights and of the output matrix are the whole
    arrays at every point. -/
theorem whole_blk (t : Fin cfg0.N) :
    iblk m c 2 t = V m c main_call0_v4 ∧ iblk m c 3 t = V m c main_call0_v7
      ∧ iblk m c 4 t = V m c main_call0_v9 ∧ iblk m c 5 t = V m c main_call0_v10 := by
  obtain ⟨_, _, ⟨a0, a1⟩, ⟨b0, b1⟩, ⟨c0, c1⟩, ⟨d0, d1⟩, _⟩ := idx_facts t
  refine ⟨funext fun i => ?_, funext fun i => ?_, funext fun i => ?_, funext fun i => ?_⟩
  · show V m c main_call0_v4 (((cfg0.win 2).blk t).view.emb i) = _
    refine congrArg (V m c main_call0_v4) (funext fun a => Fin.ext ?_)
    match a with
    | ⟨0, _⟩ => show win0_2.index t (0 : Fin 2) * 256 + 1 * (i 0).val = (i 0).val; omega
    | ⟨1, _⟩ => show win0_2.index t (1 : Fin 2) * 128 + 1 * (i 1).val = (i 1).val; omega
  · show V m c main_call0_v7 (((cfg0.win 3).blk t).view.emb i) = _
    refine congrArg (V m c main_call0_v7) (funext fun a => Fin.ext ?_)
    match a with
    | ⟨0, _⟩ => show win0_3.index t (0 : Fin 2) * 1 + 1 * (i 0).val = (i 0).val; omega
    | ⟨1, _⟩ => show win0_3.index t (1 : Fin 2) * 128 + 1 * (i 1).val = (i 1).val; omega
  · show V m c main_call0_v9 (((cfg0.win 4).blk t).view.emb i) = _
    refine congrArg (V m c main_call0_v9) (funext fun a => Fin.ext ?_)
    match a with
    | ⟨0, _⟩ => show win0_4.index t (0 : Fin 2) * 128 + 1 * (i 0).val = (i 0).val; omega
    | ⟨1, _⟩ => show win0_4.index t (1 : Fin 2) * 128 + 1 * (i 1).val = (i 1).val; omega
  · show V m c main_call0_v10 (((cfg0.win 5).blk t).view.emb i) = _
    refine congrArg (V m c main_call0_v10) (funext fun a => Fin.ext ?_)
    match a with
    | ⟨0, _⟩ => show win0_5.index t (0 : Fin 2) * 128 + 1 * (i 0).val = (i 0).val; omega
    | ⟨1, _⟩ => show win0_5.index t (1 : Fin 2) * 128 + 1 * (i 1).val = (i 1).val; omega

/-- The windows at point `t` hold block `t` of the arguments. -/
theorem blockOf (t : Fin cfg0.N) :
    BlockOf (kerArgs m c) ⟨t.val, point_lt t⟩ (iblk m c 0 t) (iblk m c 1 t) (iblk m c 2 t) (iblk m c 3 t) (iblk m c 4 t) (iblk m c 5 t) := by
  obtain ⟨e2, e3, e4, e5⟩ := whole_blk m c t
  refine ⟨feats_blk m c t, ctx_blk m c t, fun k h => ?_, fun k h => ?_, fun h => ?_, fun h o => ?_, fun d o => ?_⟩
  · rw [e2]; exact stacked_u m c k h
  · rw [e2]; exact stacked_v m c k h
  · rw [e3]; exact bias_at m c h
  · rw [e4]; exact weights_at m c h o
  · rw [e5]; exact wout_at m c d o

/-! ## The array after the run -/

/-- Zero offsets. -/
theorem zero_offsets : (![0, 0] : Fin 2 → Nat) = fun _ => 0 := funext fun a => by fin_cases a <;> rfl

/-- Row `b`, column `o` of the result array. -/
def kerOut : S10000x128.Idx → EReal := fun i => (kerArgs m c).result (i 0) (i 1)

/-- What point `t` writes back is block `t` of the results. -/
theorem flushed_eq (hw : (kerArgs m c).Finite) (t : Fin cfg0.N) :
    (dats m 0 c).flushed 6 t = ((cfg0.win 6).blk t).view.read (Elt Ideal) (kerOut m c) := by
  rw [Value.flushed6]
  unfold out0_6
  rw [View.canon_unit_zero zero_offsets, View.ld_unit_zero zero_offsets, View.ld_unit_zero zero_offsets,
    View.ld_unit_zero zero_offsets, View.ld_unit_zero zero_offsets, View.ld_unit_zero zero_offsets, View.ld_unit_zero zero_offsets]
  refine funext fun i => ?_
  obtain ⟨r, o, rfl⟩ : ∃ (r : Fin 400) (o : Fin 128), i = ix2 r o := ⟨i 0, i 1, eq_ix2 i⟩
  refine (block_at (kerArgs m c) hw ⟨t.val, point_lt t⟩ _ _ _ _ _ _ (blockOf m c t) r o).trans ?_
  show _ = kerOut m c (((cfg0.win 6).blk t).view.emb (ix2 r o))
  obtain ⟨_, _, _, _, _, _, e0, e1⟩ := idx_facts t
  refine congrArg₂ (kerArgs m c).result (Fin.ext ?_) (Fin.ext ?_)
  · show 400 * t.val + r.val = win0_6.index t (0 : Fin 2) * 400 + 1 * r.val; omega
  · show o.val = win0_6.index t (1 : Fin 2) * 128 + 1 * o.val; omega

/-- Every row of the result array lies in a block. -/
theorem cover (i : S10000x128.Idx) : ∃ t : Fin cfg0.N, (cfg0.win 6).flush t = true ∧ i ∈ ((cfg0.win 6).blk t).view.set := by
  have h0 : (i 0 : Nat) < 10000 := (i 0).isLt
  have h1 : (i 1 : Nat) < 128 := (i 1).isLt
  have hN : cfg0.N = 25 := N_0
  obtain ⟨t, ht⟩ : ∃ t : Fin cfg0.N, t.val = (i 0 : Nat) / 400 := ⟨⟨(i 0 : Nat) / 400, by omega⟩, rfl⟩
  refine ⟨t, flush0_6 t, ?_⟩
  obtain ⟨_, _, _, _, _, _, e0, e1⟩ := idx_facts t
  show i ∈ ((View.whole main_v0).slice (win0_6.rect t)).set
  rw [View.set_slice_whole, Rect.mem_set_unit]
  intro a
  match a with
  | ⟨0, _⟩ =>
    show win0_6.index t (0 : Fin 2) * 400 ≤ (i 0 : Nat) ∧ (i 0 : Nat) < win0_6.index t (0 : Fin 2) * 400 + 400
    omega
  | ⟨1, _⟩ =>
    show win0_6.index t (1 : Fin 2) * 128 ≤ (i 1 : Nat) ∧ (i 1 : Nat) < win0_6.index t (1 : Fin 2) * 128 + 128
    omega

/-- The result array after the run holds the results. -/
theorem final_eq (hw : (kerArgs m c).Finite) : (dats m 0 c).arrAt 6 cfg0.N = kerOut m c :=
  (dats m 0 c).arrAt_eq_of_cover 6 (kerOut m c) (fun t _ => flushed_eq m c hw t) cover

end Cert.Readout

end
-- ==== Proof.Equation.lean ====
/-
  The two programs leave the same array: the precondition read as facts about the arguments, the kernel's array and the
  reference's array at an index, and the runs.
-/
module

public import proofs.«01_k».proof.Defs
public import proofs.«01_k».proof.Proof.Gen.Pre_counts_and_weights
public import proofs.«01_k».proof.Proof.Gen.ReferenceIdeal.Run
public import proofs.«01_k».proof.Proof.RefValue
public import proofs.«01_k».proof.Proof.KernelValue

@[expose] public section

set_option maxRecDepth 16384

noncomputable section

namespace Cert.Readout

open Idealize.ShloMosaic hiding ix1 ix2 eq_ix1 eq_ix2
open Idealize.ShloMosaic.ValueIdx Idealize.ShloMosaic.TcCoe Idealize.ShloMosaic.StableHlo Idealize.SL.Sem

/-! ## The precondition -/

/-- A magnitude below infinity is that of a real number. -/
theorem real_of_abs_lt {x : EReal} (h : max x (-x) < ⊤) : x = ((x.toReal : ℝ) : EReal) := by
  refine (EReal.coe_toReal (ne_of_lt (lt_of_le_of_lt (le_max_left _ _) h)) fun e => ?_).symm
  rw [e, EReal.neg_bot, max_eq_right bot_le] at h
  exact lt_irrefl _ h

/-- The comparison with infinity answers one where the value is real. -/
theorem real_of_cmp {x : EReal} (h : Ideal.cmp .olt (max x (-x)) (Ideal.ofBits .f32 0x7F800000#32) = 1#1) :
    x = ((x.toReal : ℝ) : EReal) := by
  refine real_of_abs_lt ?_
  rw [inf_f32] at h
  by_contra hn
  have : Ideal.cmp .olt (max x (-x)) ⊤ = 0#1 := by
    show BitVec.ofBool (decide (max x (-x) < ⊤)) = 0#1
    rw [decide_eq_false hn]
    rfl
  rw [this] at h
  exact absurd h (by decide)

section Pre

attribute [local instance] Cert.Pre_counts_and_weights.Gen.facts

variable (m : (ℓ : Loc Cert.KernelIdeal.nD Cert.KernelIdeal.τ Cert.KernelIdeal.sig) → Buf (Elt Ideal) ℓ)

/-- Where the precondition holds, every count is 32. -/
theorem counts_of_pre (h : Cert.Pre_KernelIdeal_counts_and_weights m) (c : Dev Cert.KernelIdeal.nD) (i : Cert.KernelIdeal.S10000.Idx) :
    m ((c : Thread Cert.KernelIdeal.nD Cert.KernelIdeal.τ).loc Cert.KernelIdeal.main_arg2) i = 32#32 :=
  StableHlo.Predicate.cmpi_eq_iff.1 (congrFun (h c).1 i)

/-- Where the precondition holds, the score's weights are real numbers. -/
theorem finite_of_pre (h : Cert.Pre_KernelIdeal_counts_and_weights m) (c : Dev Cert.KernelIdeal.nD) : (kerArgs m c).Finite :=
  fun k => real_of_cmp (congrFun (h c).2 (ix2 (0 : Fin 1) k))

end Pre

/-! ## The two runs -/

section Runs

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (ρ' : Dev Cert.ReferenceIdeal.nD → PrngReg)

/-- The reference's array, as a function of the index. -/
theorem refResult_eq (V0 : Valuation Cert.ReferenceIdeal.τ Cert.ReferenceIdeal.sig (Elt Ideal))
    (hc : ∀ i : Cert.ReferenceIdeal.S10000.Idx, V0 (Proc.devRef .tc Cert.ReferenceIdeal.main_arg2) i = 32#32)
    (hw : (refArgs V0).Finite) :
    Host.dotGeneral (F := Ideal) (φ₁ := .f32) (φ₂ := .f32)
        Cert.ReferenceIdeal.dot_S10000x128_S128x128_S10000x128_1_0_0_1_n_n none (refReadout V0)
        (transpose Cert.ReferenceIdeal.S128x128 [1, 0] (refArgs V0).wout
          Cert.ReferenceIdeal.Gen.transposes_S128x128_S128x128_1_0)
      = fun i => (refArgs V0).result (i 0) (i 1) := by
  funext i
  obtain ⟨b, o, rfl⟩ : ∃ (b : Fin 10000) (o : Fin 128), i = ix2 b o := ⟨i 0, i 1, eq_ix2 i⟩
  exact refResult_at V0 hc hw b o

/-- The kernel's run leaves the results of its arguments. -/
theorem kernel_run (hw : ∀ c, (kerArgs m c).Finite) :
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
        r.2.mem ((c.tc : Thread Cert.KernelIdeal.nD Cert.KernelIdeal.τ).loc Cert.KernelIdeal.main_v0) = kerOut m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7) :=
  (θ_run Cert.KernelIdeal.defs _ _).mono (fun _ h c => ⟨(h c).1.trans (final_eq m c (hw c)), (h c).2⟩)
    (Cert.KernelIdeal.Value.run_blocks m ρ)

/-- The reference's run leaves the results of its arguments. -/
theorem reference_run
    (hc : ∀ (c : Dev Cert.ReferenceIdeal.nD) (i : Cert.ReferenceIdeal.S10000.Idx),
      launchContents m' c (Proc.devRef .tc Cert.ReferenceIdeal.main_arg2) i = 32#32)
    (hw : ∀ c, (refArgs (launchContents m' c)).Finite) :
    θ_run (Cert.ReferenceIdeal.defs (F := Ideal)) (onTc (τ := Cert.ReferenceIdeal.τ) (Cert.ReferenceIdeal.main (F := Ideal)))
      ⟨m', fun _ => 0, ρ'⟩ fun r => ∀ c : Dev Cert.ReferenceIdeal.nD,
        r.2.mem ((c.tc : Thread Cert.ReferenceIdeal.nD Cert.ReferenceIdeal.τ).loc Cert.ReferenceIdeal.main_v70)
          = (fun i : Cert.ReferenceIdeal.S10000x128.Idx => (refArgs (launchContents m' c)).result (i 0) (i 1))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7) :=
  (θ_run Cert.ReferenceIdeal.defs _ _).mono
    (fun _ h c => ⟨(h c).1.trans (refResult_eq (launchContents m' c) (hc c) (hw c)), (h c).2⟩)
    (Cert.ReferenceIdeal.Value.run (F := Ideal) m' ρ')

end Runs

end Cert.Readout

end
-- ==== Proof.lean ====
/-
  The proof of the certificate's claims: the frames of the three programs, the named constant, and the equation of the
  kernel's array and the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_counts_and_weights
public import proofs.«01_k».proof.Proof.Gen.KernelIdeal.Value
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.StableHlo Idealize.SL.Sem Cert.Readout

attribute [local instance] Cert.Kernel.Gen.facts Cert.KernelIdeal.Gen.facts Cert.ReferenceIdeal.Gen.facts
  Cert.Pre_counts_and_weights.Gen.facts

/-- The reference runs, leaves its arguments and ends with every semaphore counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments both programs leave the results of those arguments. -/
theorem equal_results : Cert.algebraic_KernelIdeal_ReferenceIdeal_pre_counts_and_weights := by
  intro m ρ m' ρ' hpre hagree
  have hargs : ∀ c, refArgs (launchContents m' c) = kerArgs m c := fun c => by
    obtain ⟨h0, h1, -, h3, h4, h5, h6, h7⟩ := hagree c
    exact Args.ext h0 h1 h3 h4 h5 h6 h7
  have hw : ∀ c, (kerArgs m c).Finite := finite_of_pre m hpre
  refine ⟨fun c => kerOut m c, kernel_run m ρ hw, ?_⟩
  refine (θ_run Cert.ReferenceIdeal.defs _ _).mono (fun _ h c => ⟨(h c).1.trans ?_, (h c).2⟩)
    (reference_run m' ρ' (fun c i => (congrFun (hagree c).2.2.1 i).trans (counts_of_pre m hpre c i))
      (fun c => (hargs c).symm ▸ hw c))
  rw [hargs c]
  rfl

/-- All the claims. -/
theorem claim : Cert.Claim :=
  ⟨Cert.Kernel.Gen.facts, Cert.KernelIdeal.Gen.facts, Cert.ReferenceIdeal.Gen.facts, Cert.Pre_counts_and_weights.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    IdealRules.named_const.statement Cert.KernelIdeal.κ "half_log2_e" .f32 0x3F38AA3B#32 (((2 * (Real.log 2))⁻¹ : ℝ) : EReal) rfl,
    equal_results⟩

end Cert.Proof

end
